-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_ConvLayer (m : (ℓ : Loc Cert.ConvLayer.nD Cert.ConvLayer.τ Cert.ConvLayer.sig) → Buf (Elt Bits) ℓ) : Prop :=
  True

def Pre_ConvLayerIdeal (m : (ℓ : Loc Cert.ConvLayerIdeal.nD Cert.ConvLayerIdeal.τ Cert.ConvLayerIdeal.sig) → Buf (Elt Ideal) ℓ) : Prop :=
  True

def Pre_ConvLayerRefIdeal (m : (ℓ : Loc Cert.ConvLayerRefIdeal.nD Cert.ConvLayerRefIdeal.τ Cert.ConvLayerRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3)
      ∧ r.2.mem ((c.tc : Thread Cert.ConvOut.nD Cert.ConvOut.τ).loc Cert.ConvOut.main_arg4) = m ((c.tc : Thread Cert.ConvOut.nD Cert.ConvOut.τ).loc Cert.ConvOut.main_arg4))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
      ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3)
      ∧ r.2.mem ((c.tc : Thread Cert.ConvOutRefIdeal.nD Cert.ConvOutRefIdeal.τ).loc Cert.ConvOutRefIdeal.main_arg4) = m ((c.tc : Thread Cert.ConvOutRefIdeal.nD Cert.ConvOutRefIdeal.τ).loc Cert.ConvOutRefIdeal.main_arg4))
      ∧ r.2.sem = fun _ => 0)

def quiescent_ConvLayer [hConvLayer : Cert.ConvLayer.Facts] : Prop :=
  ∀ (m : (ℓ : Loc Cert.ConvLayer.nD Cert.ConvLayer.τ Cert.ConvLayer.sig) → Buf (Elt Bits) ℓ) (g : Dev Cert.ConvLayer.nD → PrngReg), Pre_ConvLayer m →
    θ_run (Cert.ConvLayer.defs (F := Bits)) (onTc (τ := Cert.ConvLayer.τ) (Cert.ConvLayer.main (F := Bits))) ⟨m, fun _ => 0, g⟩ (fun r => (∀ c : Dev Cert.ConvLayer.nD,
      r.2.mem ((c.tc : Thread Cert.ConvLayer.nD Cert.ConvLayer.τ).loc Cert.ConvLayer.main_arg0) = m ((c.tc : Thread Cert.ConvLayer.nD Cert.ConvLayer.τ).loc Cert.ConvLayer.main_arg0)
      ∧ r.2.mem ((c.tc : Thread Cert.ConvLayer.nD Cert.ConvLayer.τ).loc Cert.ConvLayer.main_arg1) = m ((c.tc : Thread Cert.ConvLayer.nD Cert.ConvLayer.τ).loc Cert.ConvLayer.main_arg1)
      ∧ r.2.mem ((c.tc : Thread Cert.ConvLayer.nD Cert.ConvLayer.τ).loc Cert.ConvLayer.main_arg2) = m ((c.tc : Thread Cert.ConvLayer.nD Cert.ConvLayer.τ).loc Cert.ConvLayer.main_arg2)
      ∧ r.2.mem ((c.tc : Thread Cert.ConvLayer.nD Cert.ConvLayer.τ).loc Cert.ConvLayer.main_arg3) = m ((c.tc : Thread Cert.ConvLayer.nD Cert.ConvLayer.τ).loc Cert.ConvLayer.main_arg3)
      ∧ r.2.mem ((c.tc : Thread Cert.ConvLayer.nD Cert.ConvLayer.τ).loc Cert.ConvLayer.main_arg4) = m ((c.tc : Thread Cert.ConvLayer.nD Cert.ConvLayer.τ).loc Cert.ConvLayer.main_arg4))
      ∧ r.2.sem = fun _ => 0)

def quiescent_ConvLayerIdeal [hConvLayerIdeal : Cert.ConvLayerIdeal.Facts] : Prop :=
  ∀ (m : (ℓ : Loc Cert.ConvLayerIdeal.nD Cert.ConvLayerIdeal.τ Cert.ConvLayerIdeal.sig) → Buf (Elt Ideal) ℓ) (g : Dev Cert.ConvLayerIdeal.nD → PrngReg), Pre_ConvLayerIdeal m →
    θ_run (Cert.ConvLayerIdeal.defs (F := Ideal)) (onTc (τ := Cert.ConvLayerIdeal.τ) (Cert.ConvLayerIdeal.main (F := Ideal))) ⟨m, fun _ => 0, g⟩ (fun r => (∀ c : Dev Cert.ConvLayerIdeal.nD,
      r.2.mem ((c.tc : Thread Cert.ConvLayerIdeal.nD Cert.ConvLayerIdeal.τ).loc Cert.ConvLayerIdeal.main_arg0) = m ((c.tc : Thread Cert.ConvLayerIdeal.nD Cert.ConvLayerIdeal.τ).loc Cert.ConvLayerIdeal.main_arg0)
      ∧ r.2.mem ((c.tc : Thread Cert.ConvLayerIdeal.nD Cert.ConvLayerIdeal.τ).loc Cert.ConvLayerIdeal.main_arg1) = m ((c.tc : Thread Cert.ConvLayerIdeal.nD Cert.ConvLayerIdeal.τ).loc Cert.ConvLayerIdeal.main_arg1)
      ∧ r.2.mem ((c.tc : Thread Cert.ConvLayerIdeal.nD Cert.ConvLayerIdeal.τ).loc Cert.ConvLayerIdeal.main_arg2) = m ((c.tc : Thread Cert.ConvLayerIdeal.nD Cert.ConvLayerIdeal.τ).loc Cert.ConvLayerIdeal.main_arg2)
      ∧ r.2.mem ((c.tc : Thread Cert.ConvLayerIdeal.nD Cert.ConvLayerIdeal.τ).loc Cert.ConvLayerIdeal.main_arg3) = m ((c.tc : Thread Cert.ConvLayerIdeal.nD Cert.ConvLayerIdeal.τ).loc Cert.ConvLayerIdeal.main_arg3)
      ∧ r.2.mem ((c.tc : Thread Cert.ConvLayerIdeal.nD Cert.ConvLayerIdeal.τ).loc Cert.ConvLayerIdeal.main_arg4) = m ((c.tc : Thread Cert.ConvLayerIdeal.nD Cert.ConvLayerIdeal.τ).loc Cert.ConvLayerIdeal.main_arg4))
      ∧ r.2.sem = fun _ => 0)

def quiescent_ConvLayerRefIdeal [hConvLayerRefIdeal : Cert.ConvLayerRefIdeal.Facts] : Prop :=
  ∀ (m : (ℓ : Loc Cert.ConvLayerRefIdeal.nD Cert.ConvLayerRefIdeal.τ Cert.ConvLayerRefIdeal.sig) → Buf (Elt Ideal) ℓ) (g : Dev Cert.ConvLayerRefIdeal.nD → PrngReg), Pre_ConvLayerRefIdeal m →
    θ_run (Cert.ConvLayerRefIdeal.defs (F := Ideal)) (onTc (τ := Cert.ConvLayerRefIdeal.τ) (Cert.ConvLayerRefIdeal.main (F := Ideal))) ⟨m, fun _ => 0, g⟩ (fun r => (∀ c : Dev Cert.ConvLayerRefIdeal.nD,
      r.2.mem ((c.tc : Thread Cert.ConvLayerRefIdeal.nD Cert.ConvLayerRefIdeal.τ).loc Cert.ConvLayerRefIdeal.main_arg0) = m ((c.tc : Thread Cert.ConvLayerRefIdeal.nD Cert.ConvLayerRefIdeal.τ).loc Cert.ConvLayerRefIdeal.main_arg0)
      ∧ r.2.mem ((c.tc : Thread Cert.ConvLayerRefIdeal.nD Cert.ConvLayerRefIdeal.τ).loc Cert.ConvLayerRefIdeal.main_arg1) = m ((c.tc : Thread Cert.ConvLayerRefIdeal.nD Cert.ConvLayerRefIdeal.τ).loc Cert.ConvLayerRefIdeal.main_arg1)
      ∧ r.2.mem ((c.tc : Thread Cert.ConvLayerRefIdeal.nD Cert.ConvLayerRefIdeal.τ).loc Cert.ConvLayerRefIdeal.main_arg2) = m ((c.tc : Thread Cert.ConvLayerRefIdeal.nD Cert.ConvLayerRefIdeal.τ).loc Cert.ConvLayerRefIdeal.main_arg2)
      ∧ r.2.mem ((c.tc : Thread Cert.ConvLayerRefIdeal.nD Cert.ConvLayerRefIdeal.τ).loc Cert.ConvLayerRefIdeal.main_arg3) = m ((c.tc : Thread Cert.ConvLayerRefIdeal.nD Cert.ConvLayerRefIdeal.τ).loc Cert.ConvLayerRefIdeal.main_arg3)
      ∧ r.2.mem ((c.tc : Thread Cert.ConvLayerRefIdeal.nD Cert.ConvLayerRefIdeal.τ).loc Cert.ConvLayerRefIdeal.main_arg4) = m ((c.tc : Thread Cert.ConvLayerRefIdeal.nD Cert.ConvLayerRefIdeal.τ).loc Cert.ConvLayerRefIdeal.main_arg4))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v36)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v36) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v112) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v4_0)) (v1 : (c : Dev Cert.QkvIdeal.nD) → Buf (Elt Ideal) ((c.tc : Thread Cert.QkvIdeal.nD Cert.QkvIdeal.τ).loc Cert.QkvIdeal.main_v4_1)) (v2 : (c : Dev Cert.QkvIdeal.nD) → Buf (Elt Ideal) ((c.tc : Thread Cert.QkvIdeal.nD Cert.QkvIdeal.τ).loc Cert.QkvIdeal.main_v4_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4_0) = v0 c
          ∧ r.2.mem ((c.tc : Thread Cert.QkvIdeal.nD Cert.QkvIdeal.τ).loc Cert.QkvIdeal.main_v4_1) = v1 c
          ∧ r.2.mem ((c.tc : Thread Cert.QkvIdeal.nD Cert.QkvIdeal.τ).loc Cert.QkvIdeal.main_v4_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v21) = v0 c
          ∧ r.2.mem ((c.tc : Thread Cert.QkvRefIdeal.nD Cert.QkvRefIdeal.τ).loc Cert.QkvRefIdeal.main_v22) = v1 c
          ∧ r.2.mem ((c.tc : Thread Cert.QkvRefIdeal.nD Cert.QkvRefIdeal.τ).loc Cert.QkvRefIdeal.main_v23) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)) →
    ∃ (v0 : (c : Dev Cert.ConvInIdeal.nD) → Buf (Elt Ideal) ((c.tc : Thread Cert.ConvInIdeal.nD Cert.ConvInIdeal.τ).loc Cert.ConvInIdeal.main_v4_0)) (v1 : (c : Dev Cert.ConvInIdeal.nD) → Buf (Elt Ideal) ((c.tc : Thread Cert.ConvInIdeal.nD Cert.ConvInIdeal.τ).loc Cert.ConvInIdeal.main_v4_1)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v4_0) = v0 c
          ∧ r.2.mem ((c.tc : Thread Cert.ConvInIdeal.nD Cert.ConvInIdeal.τ).loc Cert.ConvInIdeal.main_v4_1) = v1 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v19) = v0 c
          ∧ r.2.mem ((c.tc : Thread Cert.ConvInRefIdeal.nD Cert.ConvInRefIdeal.τ).loc Cert.ConvInRefIdeal.main_v16) = v1 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)
      ∧ m' ((c.tc : Thread Cert.ConvOutRefIdeal.nD Cert.ConvOutRefIdeal.τ).loc Cert.ConvOutRefIdeal.main_arg4) = m ((c.tc : Thread Cert.ConvOutIdeal.nD Cert.ConvOutIdeal.τ).loc Cert.ConvOutIdeal.main_arg4)) →
    ∃ (v0 : (c : Dev Cert.ConvOutIdeal.nD) → Buf (Elt Ideal) ((c.tc : Thread Cert.ConvOutIdeal.nD Cert.ConvOutIdeal.τ).loc Cert.ConvOutIdeal.main_v3)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v3) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
          ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v27) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3)
          ∧ r.2.mem ((c.tc : Thread Cert.ConvOutRefIdeal.nD Cert.ConvOutRefIdeal.τ).loc Cert.ConvOutRefIdeal.main_arg4) = m' ((c.tc : Thread Cert.ConvOutRefIdeal.nD Cert.ConvOutRefIdeal.τ).loc Cert.ConvOutRefIdeal.main_arg4))

def preserves_ConvLayer_ConvLayerIdeal : Prop :=
  True

def algebraic_ConvLayerIdeal_ConvLayerRefIdeal [hConvLayerIdeal : Cert.ConvLayerIdeal.Facts] [hConvLayerRefIdeal : Cert.ConvLayerRefIdeal.Facts] : Prop :=
  ∀ (m : (ℓ : Loc Cert.ConvLayerIdeal.nD Cert.ConvLayerIdeal.τ Cert.ConvLayerIdeal.sig) → Buf (Elt Ideal) ℓ) (g : Dev Cert.ConvLayerIdeal.nD → PrngReg)
    (m' : (ℓ : Loc Cert.ConvLayerRefIdeal.nD Cert.ConvLayerRefIdeal.τ Cert.ConvLayerRefIdeal.sig) → Buf (Elt Ideal) ℓ) (g' : Dev Cert.ConvLayerRefIdeal.nD → PrngReg), Pre_ConvLayerIdeal m →
    (∀ c : Dev Cert.ConvLayerIdeal.nD,
      m' ((c.tc : Thread Cert.ConvLayerRefIdeal.nD Cert.ConvLayerRefIdeal.τ).loc Cert.ConvLayerRefIdeal.main_arg0) = m ((c.tc : Thread Cert.ConvLayerIdeal.nD Cert.ConvLayerIdeal.τ).loc Cert.ConvLayerIdeal.main_arg0)
      ∧ m' ((c.tc : Thread Cert.ConvLayerRefIdeal.nD Cert.ConvLayerRefIdeal.τ).loc Cert.ConvLayerRefIdeal.main_arg1) = m ((c.tc : Thread Cert.ConvLayerIdeal.nD Cert.ConvLayerIdeal.τ).loc Cert.ConvLayerIdeal.main_arg1)
      ∧ m' ((c.tc : Thread Cert.ConvLayerRefIdeal.nD Cert.ConvLayerRefIdeal.τ).loc Cert.ConvLayerRefIdeal.main_arg2) = m ((c.tc : Thread Cert.ConvLayerIdeal.nD Cert.ConvLayerIdeal.τ).loc Cert.ConvLayerIdeal.main_arg2)
      ∧ m' ((c.tc : Thread Cert.ConvLayerRefIdeal.nD Cert.ConvLayerRefIdeal.τ).loc Cert.ConvLayerRefIdeal.main_arg3) = m ((c.tc : Thread Cert.ConvLayerIdeal.nD Cert.ConvLayerIdeal.τ).loc Cert.ConvLayerIdeal.main_arg3)
      ∧ m' ((c.tc : Thread Cert.ConvLayerRefIdeal.nD Cert.ConvLayerRefIdeal.τ).loc Cert.ConvLayerRefIdeal.main_arg4) = m ((c.tc : Thread Cert.ConvLayerIdeal.nD Cert.ConvLayerIdeal.τ).loc Cert.ConvLayerIdeal.main_arg4)) →
    ∃ (v0 : (c : Dev Cert.ConvLayerIdeal.nD) → Buf (Elt Ideal) ((c.tc : Thread Cert.ConvLayerIdeal.nD Cert.ConvLayerIdeal.τ).loc Cert.ConvLayerIdeal.main_v9)),
      θ_run (Cert.ConvLayerIdeal.defs (F := Ideal)) (onTc (τ := Cert.ConvLayerIdeal.τ) (Cert.ConvLayerIdeal.main (F := Ideal))) ⟨m, fun _ => 0, g⟩ (fun r => ∀ c : Dev Cert.ConvLayerIdeal.nD,
          r.2.mem ((c.tc : Thread Cert.ConvLayerIdeal.nD Cert.ConvLayerIdeal.τ).loc Cert.ConvLayerIdeal.main_v9) = v0 c
          ∧ r.2.mem ((c.tc : Thread Cert.ConvLayerIdeal.nD Cert.ConvLayerIdeal.τ).loc Cert.ConvLayerIdeal.main_arg0) = m ((c.tc : Thread Cert.ConvLayerIdeal.nD Cert.ConvLayerIdeal.τ).loc Cert.ConvLayerIdeal.main_arg0)
          ∧ r.2.mem ((c.tc : Thread Cert.ConvLayerIdeal.nD Cert.ConvLayerIdeal.τ).loc Cert.ConvLayerIdeal.main_arg1) = m ((c.tc : Thread Cert.ConvLayerIdeal.nD Cert.ConvLayerIdeal.τ).loc Cert.ConvLayerIdeal.main_arg1)
          ∧ r.2.mem ((c.tc : Thread Cert.ConvLayerIdeal.nD Cert.ConvLayerIdeal.τ).loc Cert.ConvLayerIdeal.main_arg2) = m ((c.tc : Thread Cert.ConvLayerIdeal.nD Cert.ConvLayerIdeal.τ).loc Cert.ConvLayerIdeal.main_arg2)
          ∧ r.2.mem ((c.tc : Thread Cert.ConvLayerIdeal.nD Cert.ConvLayerIdeal.τ).loc Cert.ConvLayerIdeal.main_arg3) = m ((c.tc : Thread Cert.ConvLayerIdeal.nD Cert.ConvLayerIdeal.τ).loc Cert.ConvLayerIdeal.main_arg3)
          ∧ r.2.mem ((c.tc : Thread Cert.ConvLayerIdeal.nD Cert.ConvLayerIdeal.τ).loc Cert.ConvLayerIdeal.main_arg4) = m ((c.tc : Thread Cert.ConvLayerIdeal.nD Cert.ConvLayerIdeal.τ).loc Cert.ConvLayerIdeal.main_arg4))
      ∧ θ_run (Cert.ConvLayerRefIdeal.defs (F := Ideal)) (onTc (τ := Cert.ConvLayerRefIdeal.τ) (Cert.ConvLayerRefIdeal.main (F := Ideal))) ⟨m', fun _ => 0, g'⟩ (fun r => ∀ c : Dev Cert.ConvLayerRefIdeal.nD,
          r.2.mem ((c.tc : Thread Cert.ConvLayerRefIdeal.nD Cert.ConvLayerRefIdeal.τ).loc Cert.ConvLayerRefIdeal.main_v46) = v0 c
          ∧ r.2.mem ((c.tc : Thread Cert.ConvLayerRefIdeal.nD Cert.ConvLayerRefIdeal.τ).loc Cert.ConvLayerRefIdeal.main_arg0) = m' ((c.tc : Thread Cert.ConvLayerRefIdeal.nD Cert.ConvLayerRefIdeal.τ).loc Cert.ConvLayerRefIdeal.main_arg0)
          ∧ r.2.mem ((c.tc : Thread Cert.ConvLayerRefIdeal.nD Cert.ConvLayerRefIdeal.τ).loc Cert.ConvLayerRefIdeal.main_arg1) = m' ((c.tc : Thread Cert.ConvLayerRefIdeal.nD Cert.ConvLayerRefIdeal.τ).loc Cert.ConvLayerRefIdeal.main_arg1)
          ∧ r.2.mem ((c.tc : Thread Cert.ConvLayerRefIdeal.nD Cert.ConvLayerRefIdeal.τ).loc Cert.ConvLayerRefIdeal.main_arg2) = m' ((c.tc : Thread Cert.ConvLayerRefIdeal.nD Cert.ConvLayerRefIdeal.τ).loc Cert.ConvLayerRefIdeal.main_arg2)
          ∧ r.2.mem ((c.tc : Thread Cert.ConvLayerRefIdeal.nD Cert.ConvLayerRefIdeal.τ).loc Cert.ConvLayerRefIdeal.main_arg3) = m' ((c.tc : Thread Cert.ConvLayerRefIdeal.nD Cert.ConvLayerRefIdeal.τ).loc Cert.ConvLayerRefIdeal.main_arg3)
          ∧ r.2.mem ((c.tc : Thread Cert.ConvLayerRefIdeal.nD Cert.ConvLayerRefIdeal.τ).loc Cert.ConvLayerRefIdeal.main_arg4) = m' ((c.tc : Thread Cert.ConvLayerRefIdeal.nD Cert.ConvLayerRefIdeal.τ).loc Cert.ConvLayerRefIdeal.main_arg4))

def Claim : Prop :=
  ∃ (hAttn : Cert.Attn.Facts) (hAttnIdeal : Cert.AttnIdeal.Facts) (hAttnRefIdeal : Cert.AttnRefIdeal.Facts) (hQkv : Cert.Qkv.Facts) (hQkvIdeal : Cert.QkvIdeal.Facts) (hQkvRefIdeal : Cert.QkvRefIdeal.Facts) (hConvIn : Cert.ConvIn.Facts) (hConvInIdeal : Cert.ConvInIdeal.Facts) (hConvInRefIdeal : Cert.ConvInRefIdeal.Facts) (hConvOut : Cert.ConvOut.Facts) (hConvOutIdeal : Cert.ConvOutIdeal.Facts) (hConvOutRefIdeal : Cert.ConvOutRefIdeal.Facts) (hConvLayer : Cert.ConvLayer.Facts) (hConvLayerIdeal : Cert.ConvLayerIdeal.Facts) (hConvLayerRefIdeal : Cert.ConvLayerRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Qkv (hQkv := hQkv)
    ∧ quiescent_QkvIdeal (hQkvIdeal := hQkvIdeal)
    ∧ quiescent_QkvRefIdeal (hQkvRefIdeal := hQkvRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_ConvLayer (hConvLayer := hConvLayer)
    ∧ quiescent_ConvLayerIdeal (hConvLayerIdeal := hConvLayerIdeal)
    ∧ quiescent_ConvLayerRefIdeal (hConvLayerRefIdeal := hConvLayerRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Qkv_QkvIdeal
    ∧ algebraic_QkvIdeal_QkvRefIdeal (hQkvIdeal := hQkvIdeal) (hQkvRefIdeal := hQkvRefIdeal)
    ∧ preserves_ConvIn_ConvInIdeal
    ∧ algebraic_ConvInIdeal_ConvInRefIdeal (hConvInIdeal := hConvInIdeal) (hConvInRefIdeal := hConvInRefIdeal)
    ∧ preserves_ConvOut_ConvOutIdeal
    ∧ algebraic_ConvOutIdeal_ConvOutRefIdeal (hConvOutIdeal := hConvOutIdeal) (hConvOutRefIdeal := hConvOutRefIdeal)
    ∧ preserves_ConvLayer_ConvLayerIdeal
    ∧ algebraic_ConvLayerIdeal_ConvLayerRefIdeal (hConvLayerIdeal := hConvLayerIdeal) (hConvLayerRefIdeal := hConvLayerRefIdeal)
-- ==== Pre_finite.lean ====
abbrev S16384x1024 : Shape := ⟨2, ![16384, 1024]⟩
abbrev S16384x256 : Shape := ⟨2, ![16384, 256]⟩
abbrev S32x16 : Shape := ⟨2, ![32, 16]⟩
abbrev S1x16 : Shape := ⟨2, ![1, 16]⟩
abbrev S1x1024x1024 : Shape := ⟨3, ![1, 1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S32x16 : S_.BroadcastsInDim S32x16 (![] : Fin 0 → Fin S32x16.rank)
  reducesTo_S32x16_S_d0_1 : S32x16.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  main_v18

def fn {F : FTy → Type} [FloatOps F] (main_arg0 : FVec F S16384x1024 .bf16) (main_arg1 : FVec F S16384x256 .bf16) (main_arg2 : FVec F S16384x256 .bf16) (main_arg3 : FVec F S32x16 .f32) (main_arg4 : FVec F S1x16 .f32) (main_arg5 : FVec F S16384x1024 .f32) (main_arg6 : FVec F S1x1024x1024 .f32) : IVec S_ 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x256 .bf16 := Host.absf main_arg1
  let main_cst_0 : FVec F S_ .bf16 := constant S_ .bf16 0x7F80#16
  let main_v5 : FVec F S16384x256 .bf16 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S32x16 .f32 := Host.absf main_arg3
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S1x16 .f32 := Host.absf main_arg4
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_v13 main_v16
-- ==== Attn.lean ====
abbrev S16384x1024 : Shape := ⟨2, ![16384, 1024]⟩
abbrev S16384x256 : Shape := ⟨2, ![16384, 256]⟩
abbrev S32x16 : Shape := ⟨2, ![32, 16]⟩
abbrev S1x16 : Shape := ⟨2, ![1, 16]⟩
abbrev S1x1024x1024 : Shape := ⟨3, ![1, 1024, 1024]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S16 : Shape := ⟨1, ![16]⟩
abbrev S1024x1024 : Shape := ⟨2, ![1024, 1024]⟩
abbrev S128x1024 : Shape := ⟨2, ![128, 1024]⟩
abbrev S128x256 : Shape := ⟨2, ![128, 256]⟩
abbrev S16x128x384 : Shape := ⟨3, ![16, 128, 384]⟩
abbrev S1x1 : Shape := ⟨2, ![1, 1]⟩
abbrev S1x128x384 : Shape := ⟨3, ![1, 128, 384]⟩
abbrev S128x64 : Shape := ⟨2, ![128, 64]⟩
abbrev S384x64 : Shape := ⟨2, ![384, 64]⟩
abbrev S1 : Shape := ⟨1, ![1]⟩

abbrev nBuf : Space → Nat
  | .hbm => 57
  | .vmem => 22
  | .smem => 2
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S32x16, .f32⟩
  | .hbm, ⟨4, _⟩ => ⟨S1x16, .f32⟩
  | .hbm, ⟨5, _⟩ => ⟨S16384x1024, .f32⟩
  | .hbm, ⟨6, _⟩ => ⟨S1x1024x1024, .f32⟩
  | .hbm, ⟨7, _⟩ => ⟨S128, .i32⟩
  | .hbm, ⟨8, _⟩ => ⟨S128x1, .i32⟩
  | .hbm, ⟨9, _⟩ => ⟨S384, .i32⟩
  | .hbm, ⟨10, _⟩ => ⟨S1x384, .i32⟩
  | .hbm, ⟨11, _⟩ => ⟨S_, .i32⟩
  | .hbm, ⟨12, _⟩ => ⟨S1x384, .i32⟩
  | .hbm, ⟨13, _⟩ => ⟨S1x384, .i32⟩
  | .hbm, ⟨14, _⟩ => ⟨S128x384, .i32⟩
  | .hbm, ⟨15, _⟩ => ⟨S128x384, .i32⟩
  | .hbm, ⟨16, _⟩ => ⟨S128x384, .i32⟩
  | .hbm, ⟨17, _⟩ => ⟨S_, .i32⟩
  | .hbm, ⟨18, _⟩ => ⟨S128x384, .i32⟩
  | .hbm, ⟨19, _⟩ => ⟨S128x384, .i1⟩
  | .hbm, ⟨20, _⟩ => ⟨S_, .i32⟩
  | .hbm, ⟨21, _⟩ => ⟨S_, .i32⟩
  | .hbm, ⟨22, _⟩ => ⟨S128x384, .i32⟩
  | .hbm, ⟨23, _⟩ => ⟨S128x384, .i32⟩
  | .hbm, ⟨24, _⟩ => ⟨S128x384, .i32⟩
  | .hbm, ⟨25, _⟩ => ⟨S128x384, .i32⟩
  | .hbm, ⟨26, _⟩ => ⟨S_, .i32⟩
  | .hbm, ⟨27, _⟩ => ⟨S128x384, .i32⟩
  | .hbm, ⟨28, _⟩ => ⟨S128x384, .i32⟩
  | .hbm, ⟨29, _⟩ => ⟨S128x384, .f32⟩
  | .hbm, ⟨30, _⟩ => ⟨S_, .f32⟩
  | .hbm, ⟨31, _⟩ => ⟨S128x384, .f32⟩
  | .hbm, ⟨32, _⟩ => ⟨S128x384, .f32⟩
  | .hbm, ⟨33, _⟩ => ⟨S128x384, .f32⟩
  | .hbm, ⟨34, _⟩ => ⟨S_, .f32⟩
  | .hbm, ⟨35, _⟩ => ⟨S128x384, .f32⟩
  | .hbm, ⟨36, _⟩ => ⟨S128x384, .f32⟩
  | .hbm, ⟨37, _⟩ => ⟨S_, .f32⟩
  | .hbm, ⟨38, _⟩ => ⟨S128x384, .f32⟩
  | .hbm, ⟨39, _⟩ => ⟨S128x384, .f32⟩
  | .hbm, ⟨40, _⟩ => ⟨S128x384, .i32⟩
  | .hbm, ⟨41, _⟩ => ⟨S_, .i32⟩
  | .hbm, ⟨42, _⟩ => ⟨S128x384, .i32⟩
  | .hbm, ⟨43, _⟩ => ⟨S128x384, .i32⟩
  | .hbm, ⟨44, _⟩ => ⟨S_, .i32⟩
  | .hbm, ⟨45, _⟩ => ⟨S128x384, .i32⟩
  | .hbm, ⟨46, _⟩ => ⟨S128x384, .i32⟩
  | .hbm, ⟨47, _⟩ => ⟨S_, .i32⟩
  | .hbm, ⟨48, _⟩ => ⟨S128x384, .i32⟩
  | .hbm, ⟨49, _⟩ => ⟨S128x384, .i1⟩
  | .hbm, ⟨50, _⟩ => ⟨S128x384, .i32⟩
  | .hbm, ⟨51, _⟩ => ⟨S128x384, .i32⟩
  | .hbm, ⟨52, _⟩ => ⟨S128x384, .i32⟩
  | .hbm, ⟨53, _⟩ => ⟨S16, .f32⟩
  | .hbm, ⟨54, _⟩ => ⟨S1024x1024, .f32⟩
  | .hbm, ⟨55, _⟩ => ⟨S1024x1024, .bf16⟩
  | .hbm, ⟨56, _⟩ => ⟨S16384x1024, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x384, .i32⟩
  | .local _ .vmem, ⟨15, _⟩ => ⟨S128x1024, .f32⟩
  | .local _ .vmem, ⟨16, _⟩ => ⟨S128x1024, .f32⟩
  | .local _ .vmem, ⟨17, _⟩ => ⟨S1024x1024, .bf16⟩
  | .local _ .vmem, ⟨18, _⟩ => ⟨S128x1024, .f32⟩
  | .local _ .vmem, ⟨19, _⟩ => ⟨S128x1024, .f32⟩
  | .local _ .vmem, ⟨20, _⟩ => ⟨S16x128x384, .f32⟩
  | .local _ .vmem, ⟨21, _⟩ => ⟨S128x1024, .bf16⟩
  | .local _ .smem, ⟨0, _⟩ => ⟨S32x16, .f32⟩
  | .local _ .smem, ⟨1, _⟩ => ⟨S16, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg8_0 : Ref sig .tc := ⟨.smem, 0, rfl⟩
abbrev cc0_stg9_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_243 : BitVec 32 := 0#32
  let c16_i32 : BitVec 32 := 16#32
  let v538 : BitVec 32 := Scalar.addi c0_i32_243 c16_i32
  let c1_i32_244 : BitVec 32 := 1#32
  ⟨c0_i32_243, v538, c1_i32_244⟩
@[reducible] def k0_t2_loop : Scf.Loop 32 :=
  let c0_i32_247 : BitVec 32 := 0#32
  let c32_i32 : BitVec 32 := 32#32
  let v540 : BitVec 32 := Scalar.addi c0_i32_247 c32_i32
  let c1_i32_248 : BitVec 32 := 1#32
  ⟨c0_i32_247, v540, c1_i32_248⟩
def k0_off1 (k0_t1 : Fin k0_t1_loop.trips) (k0_t2 : Fin k0_t2_loop.trips) : Fin 2 → Nat :=
  let c0_i32_247 : BitVec 32 := 0#32
  let c1_i32_248 : BitVec 32 := 1#32
  let arg17 : BitVec 32 := Scf.iv c0_i32_247 c1_i32_248 k0_t2
  let v550 : Index := Scalar.indexCast arg17
  let c0_i32_243 : BitVec 32 := 0#32
  let c1_i32_244 : BitVec 32 := 1#32
  let arg16 : BitVec 32 := Scf.iv c0_i32_243 c1_i32_244 k0_t1
  let v551 : Index := Scalar.indexCast arg16
  ![v550.toNat, v551.toNat]
def k0_off2 (k0_t1 : Fin k0_t1_loop.trips) : Fin 3 → Nat :=
  let c0_i32_243 : BitVec 32 := 0#32
  let c1_i32_244 : BitVec 32 := 1#32
  let arg16 : BitVec 32 := Scf.iv c0_i32_243 c1_i32_244 k0_t1
  let v544 : Index := Scalar.indexCast arg16
  let c0_251 : Index := 0#32
  let c0_252 : Index := 0#32
  ![v544.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x384 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S32x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S16384x1024 : Shape := ⟨2, ![16384, 1024]⟩
abbrev S16384x256 : Shape := ⟨2, ![16384, 256]⟩
abbrev S32x16 : Shape := ⟨2, ![32, 16]⟩
abbrev S1x16 : Shape := ⟨2, ![1, 16]⟩
abbrev S1x1024x1024 : Shape := ⟨3, ![1, 1024, 1024]⟩
abbrev S16 : Shape := ⟨1, ![16]⟩
abbrev S1024x1024 : Shape := ⟨2, ![1024, 1024]⟩
abbrev S2x64x128x4x4x64 : Shape := ⟨6, ![2, 64, 128, 4, 4, 64]⟩
abbrev S2x8192x4x64 : Shape := ⟨4, ![2, 8192, 4, 64]⟩
abbrev S_ : Shape := ⟨0, ![]⟩
abbrev S2x8448x4x64 : Shape := ⟨4, ![2, 8448, 4, 64]⟩
abbrev S2x66x128x4x64 : Shape := ⟨5, ![2, 66, 128, 4, 64]⟩
abbrev S2x64x128x4x64 : Shape := ⟨5, ![2, 64, 128, 4, 64]⟩
abbrev S2x64x384x4x64 : Shape := ⟨5, ![2, 64, 384, 4, 64]⟩
abbrev S2x64x4x384x128x4 : Shape := ⟨6, ![2, 64, 4, 384, 128, 4]⟩
abbrev S2x64x4x4x128x384 : Shape := ⟨6, ![2, 64, 4, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x384x1 : Shape := ⟨3, ![128, 384, 1]⟩
abbrev S128x384x16 : Shape := ⟨3, ![128, 384, 16]⟩
abbrev S16x128x384 : Shape := ⟨3, ![16, 128, 384]⟩
abbrev S4x4x128x384 : Shape := ⟨4, ![4, 4, 128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S1x64x1x1x128x384 : Shape := ⟨6, ![1, 64, 1, 1, 128, 384]⟩
abbrev S1x1x4x4x128x384 : Shape := ⟨6, ![1, 1, 4, 4, 128, 384]⟩
abbrev S4x4x1x1 : Shape := ⟨4, ![4, 4, 1, 1]⟩
abbrev S2x64x4x4x128x1 : Shape := ⟨6, ![2, 64, 4, 4, 128, 1]⟩
abbrev S2x64x4x4x128x385 : Shape := ⟨6, ![2, 64, 4, 4, 128, 385]⟩
abbrev S2x64x4x4x128 : Shape := ⟨5, ![2, 64, 4, 4, 128]⟩
abbrev S2x64x4x64x4x128 : Shape := ⟨6, ![2, 64, 4, 64, 4, 128]⟩

abbrev nBuf : Space → Nat
  | .hbm => 151
  | .vmem => 0
  | .smem => 0
  | _ => 0

abbrev hbmTy0_0 (i : Nat) : BufTy := match i % 128 with
  | 0 => ⟨S16384x1024, .bf16⟩
  | 1 => ⟨S16384x256, .bf16⟩
  | 2 => ⟨S16384x256, .bf16⟩
  | 3 => ⟨S32x16, .f32⟩
  | 4 => ⟨S1x16, .f32⟩
  | 5 => ⟨S16384x1024, .f32⟩
  | 6 => ⟨S1x1024x1024, .f32⟩
  | 7 => ⟨S16, .f32⟩
  | 8 => ⟨S1024x1024, .f32⟩
  | 9 => ⟨S16384x1024, .f32⟩
  | 10 => ⟨S2x64x128x4x4x64, .f32⟩
  | 11 => ⟨S16384x256, .f32⟩
  | 12 => ⟨S2x8192x4x64, .f32⟩
  | 13 => ⟨S16384x256, .f32⟩
  | 14 => ⟨S2x8192x4x64, .f32⟩
  | 15 => ⟨S_, .i32⟩
  | 16 => ⟨S_, .f32⟩
  | 17 => ⟨S2x8448x4x64, .f32⟩
  | 18 => ⟨S2x66x128x4x64, .f32⟩
  | 19 => ⟨S2x64x128x4x64, .f32⟩
  | 20 => ⟨S2x64x128x4x64, .f32⟩
  | 21 => ⟨S2x64x128x4x64, .f32⟩
  | 22 => ⟨S2x64x384x4x64, .f32⟩
  | 23 => ⟨S_, .i32⟩
  | 24 => ⟨S_, .f32⟩
  | 25 => ⟨S2x8448x4x64, .f32⟩
  | 26 => ⟨S2x66x128x4x64, .f32⟩
  | 27 => ⟨S2x64x128x4x64, .f32⟩
  | 28 => ⟨S2x64x128x4x64, .f32⟩
  | 29 => ⟨S2x64x128x4x64, .f32⟩
  | 30 => ⟨S2x64x384x4x64, .f32⟩
  | 31 => ⟨S2x64x4x384x128x4, .f32⟩
  | 32 => ⟨S2x64x4x4x128x384, .f32⟩
  | 33 => ⟨S128, .i32⟩
  | 34 => ⟨S128x1, .i32⟩
  | 35 => ⟨S384, .i32⟩
  | 36 => ⟨S1x384, .i32⟩
  | 37 => ⟨S_, .i32⟩
  | 38 => ⟨S1x384, .i32⟩
  | 39 => ⟨S1x384, .i32⟩
  | 40 => ⟨S128x384, .i32⟩
  | 41 => ⟨S128x384, .i32⟩
  | 42 => ⟨S128x384, .i32⟩
  | 43 => ⟨S_, .i32⟩
  | 44 => ⟨S128x384, .i32⟩
  | 45 => ⟨S128x384, .i1⟩
  | 46 => ⟨S_, .i32⟩
  | 47 => ⟨S_, .i32⟩
  | 48 => ⟨S128x384, .i32⟩
  | 49 => ⟨S128x384, .i32⟩
  | 50 => ⟨S128x384, .i32⟩
  | 51 => ⟨S128x384, .i32⟩
  | 52 => ⟨S_, .i32⟩
  | 53 => ⟨S128x384, .i32⟩
  | 54 => ⟨S128x384, .i32⟩
  | 55 => ⟨S128x384, .f32⟩
  | 56 => ⟨S_, .f32⟩
  | 57 => ⟨S128x384, .f32⟩
  | 58 => ⟨S128x384, .f32⟩
  | 59 => ⟨S128x384, .f32⟩
  | 60 => ⟨S_, .f32⟩
  | 61 => ⟨S128x384, .f32⟩
  | 62 => ⟨S128x384, .f32⟩
  | 63 => ⟨S_, .f32⟩
  | 64 => ⟨S128x384, .f32⟩
  | 65 => ⟨S128x384, .f32⟩
  | 66 => ⟨S128x384, .i32⟩
  | 67 => ⟨S_, .i32⟩
  | 68 => ⟨S128x384, .i32⟩
  | 69 => ⟨S128x384, .i32⟩
  | 70 => ⟨S_, .i32⟩
  | 71 => ⟨S128x384, .i32⟩
  | 72 => ⟨S128x384, .i32⟩
  | 73 => ⟨S_, .i32⟩
  | 74 => ⟨S128x384, .i32⟩
  | 75 => ⟨S128x384, .i1⟩
  | 76 => ⟨S128x384, .i32⟩
  | 77 => ⟨S128x384, .i32⟩
  | 78 => ⟨S128x384, .i32⟩
  | 79 => ⟨S_, .i32⟩
  | 80 => ⟨S128x384, .i32⟩
  | 81 => ⟨S128x384, .i1⟩
  | 82 => ⟨S_, .i32⟩
  | 83 => ⟨S128x384, .i32⟩
  | 84 => ⟨S128x384, .i32⟩
  | 85 => ⟨S128x384, .i32⟩
  | 86 => ⟨S128x384x1, .i32⟩
  | 87 => ⟨S128x384x16, .f32⟩
  | 88 => ⟨S16x128x384, .f32⟩
  | 89 => ⟨S4x4x128x384, .f32⟩
  | 90 => ⟨S64, .i32⟩
  | 91 => ⟨S64x1, .i32⟩
  | 92 => ⟨S_, .i32⟩
  | 93 => ⟨S64x1, .i32⟩
  | 94 => ⟨S64x1, .i32⟩
  | 95 => ⟨S_, .i32⟩
  | 96 => ⟨S64x1, .i32⟩
  | 97 => ⟨S64x1, .i32⟩
  | 98 => ⟨S384, .i32⟩
  | 99 => ⟨S1x384, .i32⟩
  | 100 => ⟨S64x384, .i32⟩
  | 101 => ⟨S64x384, .i32⟩
  | 102 => ⟨S64x384, .i32⟩
  | 103 => ⟨S128x384, .i32⟩
  | 104 => ⟨S_, .i32⟩
  | 105 => ⟨S128x384, .i32⟩
  | 106 => ⟨S128x384, .i1⟩
  | 107 => ⟨S1x128x384, .i1⟩
  | 108 => ⟨S_, .i32⟩
  | 109 => ⟨S64x384, .i32⟩
  | 110 => ⟨S64x384, .i1⟩
  | 111 => ⟨S_, .i32⟩
  | 112 => ⟨S64x384, .i32⟩
  | 113 => ⟨S64x384, .i1⟩
  | 114 => ⟨S64x384, .i1⟩
  | 115 => ⟨S64x1x384, .i1⟩
  | 116 => ⟨S64x128x384, .i1⟩
  | 117 => ⟨S64x128x384, .i1⟩
  | 118 => ⟨S64x128x384, .i1⟩
  | 119 => ⟨S1x64x1x1x128x384, .i1⟩
  | 120 => ⟨S1x1x4x4x128x384, .f32⟩
  | 121 => ⟨S2x64x4x4x128x384, .f32⟩
  | 122 => ⟨S2x64x4x4x128x384, .f32⟩
  | 123 => ⟨S_, .f32⟩
  | 124 => ⟨S_, .f32⟩
  | 125 => ⟨S2x64x4x4x128x384, .i1⟩
  | 126 => ⟨S2x64x4x4x128x384, .f32⟩
  | 127 => ⟨S2x64x4x4x128x384, .f32⟩
  | _ => ⟨S16384x1024, .bf16⟩

abbrev hbmTy0_1 (i : Nat) : BufTy := match i % 128 with
  | 0 => ⟨S4x4x1x1, .f32⟩
  | 1 => ⟨S2x64x4x4x128x1, .f32⟩
  | 2 => ⟨S2x64x4x4x128x385, .f32⟩
  | 3 => ⟨S_, .f32⟩
  | 4 => ⟨S2x64x4x4x128, .f32⟩
  | 5 => ⟨S_, .f32⟩
  | 6 => ⟨S2x64x4x4x128, .f32⟩
  | 7 => ⟨S2x64x4x4x128, .f32⟩
  | 8 => ⟨S2x64x4x4x128x1, .f32⟩
  | 9 => ⟨S2x64x4x4x128x385, .f32⟩
  | 10 => ⟨S2x64x4x4x128x385, .f32⟩
  | 11 => ⟨S2x64x4x4x128x385, .f32⟩
  | 12 => ⟨S_, .f32⟩
  | 13 => ⟨S2x64x4x4x128, .f32⟩
  | 14 => ⟨S2x64x4x4x128x1, .f32⟩
  | 15 => ⟨S2x64x4x4x128x385, .f32⟩
  | 16 => ⟨S2x64x4x4x128x385, .f32⟩
  | 17 => ⟨S2x64x4x4x128x384, .f32⟩
  | 18 => ⟨S2x64x4x64x4x128, .f32⟩
  | 19 => ⟨S2x64x128x4x4x64, .f32⟩
  | 20 => ⟨S16384x1024, .f32⟩
  | 21 => ⟨S16384x1024, .f32⟩
  | 22 => ⟨S16384x1024, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_c_4 : Ref sig .tc := ⟨.hbm, 47, rfl⟩
abbrev main_call2_v0 : Ref sig .tc := ⟨.hbm, 48, rfl⟩
abbrev main_call2_v1 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_16 : Ref sig .tc := ⟨.hbm, 108, rfl⟩
abbrev main_v79 : Ref sig .tc := ⟨.hbm, 109, rfl⟩
abbrev main_v80 : Ref sig .tc := ⟨.hbm, 110, rfl⟩
abbrev main_c_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_18 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_cst_20 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_21 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩

abbrev nD : Nat := 1
abbrev τ : Topo := Topo.v7x

variable {F : FTy → Type} [FloatOps F]
-- ==== Qkv.lean ====
abbrev S16384x1024 : Shape := ⟨2, ![16384, 1024]⟩
abbrev S1x1024 : Shape := ⟨2, ![1, 1024]⟩
abbrev S1x1024x1536 : Shape := ⟨3, ![1, 1024, 1536]⟩
abbrev S1024 : Shape := ⟨1, ![1024]⟩
abbrev S1024x1536 : Shape := ⟨2, ![1024, 1536]⟩
abbrev S16384x256 : Shape := ⟨2, ![16384, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024x1024 : Shape := ⟨2, ![1024, 1024]⟩
abbrev S1024x256 : Shape := ⟨2, ![1024, 256]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x1536, .f32⟩
  | .hbm, ⟨3, _⟩ => ⟨S1024, .f32⟩
  | .hbm, ⟨4, _⟩ => ⟨S1x1024, .f32⟩
  | .hbm, ⟨5, _⟩ => ⟨S1024x1536, .f32⟩
  | .hbm, ⟨6, _⟩ => ⟨S1024x1536, .bf16⟩
  | .hbm, ⟨7, _⟩ => ⟨S16384x1024, .bf16⟩
  | .hbm, ⟨8, _⟩ => ⟨S16384x256, .bf16⟩
  | .hbm, ⟨9, _⟩ => ⟨S16384x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvRefIdeal.lean ====
abbrev S16384x1024 : Shape := ⟨2, ![16384, 1024]⟩
abbrev S1x1024 : Shape := ⟨2, ![1, 1024]⟩
abbrev S1x1024x1536 : Shape := ⟨3, ![1, 1024, 1536]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x1536 : Shape := ⟨2, ![1024, 1536]⟩
abbrev S16384x1536 : Shape := ⟨2, ![16384, 1536]⟩
abbrev S16384x256 : Shape := ⟨2, ![16384, 256]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x1536, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x1536, .f32⟩
  | .hbm, ⟨21, _⟩ => ⟨S16384x1536, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x256, .f32⟩
  | .hbm, ⟨27, _⟩ => ⟨S16384x256, .f32⟩
  | .hbm, ⟨28, _⟩ => ⟨S16384x1024, .bf16⟩
  | .hbm, ⟨29, _⟩ => ⟨S16384x256, .bf16⟩
  | .hbm, ⟨30, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== ConvIn.lean ====
abbrev S16384x1024 : Shape := ⟨2, ![16384, 1024]⟩
abbrev S1x1024 : Shape := ⟨2, ![1, 1024]⟩
abbrev S1x1024x3072 : Shape := ⟨3, ![1, 1024, 3072]⟩
abbrev S1024 : Shape := ⟨1, ![1024]⟩
abbrev S1024x3072 : Shape := ⟨2, ![1024, 3072]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x3072, .f32⟩
  | .hbm, ⟨3, _⟩ => ⟨S1024, .f32⟩
  | .hbm, ⟨4, _⟩ => ⟨S1x1024, .f32⟩
  | .hbm, ⟨5, _⟩ => ⟨S1024x3072, .f32⟩
  | .hbm, ⟨6, _⟩ => ⟨S1024x3072, .bf16⟩
  | .hbm, ⟨7, _⟩ => ⟨S16384x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvInRefIdeal.lean ====
abbrev S16384x1024 : Shape := ⟨2, ![16384, 1024]⟩
abbrev S1x1024 : Shape := ⟨2, ![1, 1024]⟩
abbrev S1x1024x3072 : Shape := ⟨3, ![1, 1024, 3072]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x3072 : Shape := ⟨2, ![1024, 3072]⟩
abbrev S16384x3072 : Shape := ⟨2, ![16384, 3072]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x3072, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x3072, .f32⟩
  | .hbm, ⟨21, _⟩ => ⟨S16384x3072, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== ConvOut.lean ====
abbrev S16384x1024 : Shape := ⟨2, ![16384, 1024]⟩
abbrev S1x3x1024 : Shape := ⟨3, ![1, 3, 1024]⟩
abbrev S1x1024x1024 : Shape := ⟨3, ![1, 1024, 1024]⟩
abbrev S3x1024 : Shape := ⟨2, ![3, 1024]⟩
abbrev S1024x1024 : Shape := ⟨2, ![1024, 1024]⟩
abbrev S512x1024 : Shape := ⟨2, ![512, 1024]⟩
abbrev S8x1024 : Shape := ⟨2, ![8, 1024]⟩
abbrev S1x1024 : Shape := ⟨2, ![1, 1024]⟩

abbrev nBuf : Space → Nat
  | .hbm => 9
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x3x1024, .f32⟩
  | .hbm, ⟨4, _⟩ => ⟨S1x1024x1024, .f32⟩
  | .hbm, ⟨5, _⟩ => ⟨S3x1024, .f32⟩
  | .hbm, ⟨6, _⟩ => ⟨S1024x1024, .f32⟩
  | .hbm, ⟨7, _⟩ => ⟨S1024x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S3x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvOutRefIdeal.lean ====
abbrev S16384x1024 : Shape := ⟨2, ![16384, 1024]⟩
abbrev S1x3x1024 : Shape := ⟨3, ![1, 3, 1024]⟩
abbrev S1x1024x1024 : Shape := ⟨3, ![1, 1024, 1024]⟩
abbrev S3x1024 : Shape := ⟨2, ![3, 1024]⟩
abbrev S2x8192x1024 : Shape := ⟨3, ![2, 8192, 1024]⟩
abbrev S_ : Shape := ⟨0, ![]⟩
abbrev S2x8194x1024 : Shape := ⟨3, ![2, 8194, 1024]⟩
abbrev S1x1024 : Shape := ⟨2, ![1, 1024]⟩
abbrev S1024 : Shape := ⟨1, ![1024]⟩
abbrev S1x1x1024 : Shape := ⟨3, ![1, 1, 1024]⟩
abbrev S1024x1024 : Shape := ⟨2, ![1024, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x3x1024, .f32⟩
  | .hbm, ⟨4, _⟩ => ⟨S1x1024x1024, .f32⟩
  | .hbm, ⟨5, _⟩ => ⟨S3x1024, .f32⟩
  | .hbm, ⟨6, _⟩ => ⟨S2x8192x1024, .f32⟩
  | .hbm, ⟨7, _⟩ => ⟨S_, .i32⟩
  | .hbm, ⟨8, _⟩ => ⟨S_, .f32⟩
  | .hbm, ⟨9, _⟩ => ⟨S2x8194x1024, .f32⟩
  | .hbm, ⟨10, _⟩ => ⟨S1x1024, .f32⟩
  | .hbm, ⟨11, _⟩ => ⟨S1024, .f32⟩
  | .hbm, ⟨12, _⟩ => ⟨S2x8192x1024, .f32⟩
  | .hbm, ⟨13, _⟩ => ⟨S1x1x1024, .f32⟩
  | .hbm, ⟨14, _⟩ => ⟨S2x8192x1024, .f32⟩
  | .hbm, ⟨15, _⟩ => ⟨S2x8192x1024, .f32⟩
  | .hbm, ⟨16, _⟩ => ⟨S1x1024, .f32⟩
  | .hbm, ⟨17, _⟩ => ⟨S1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S1x1024, .f32⟩
  | .hbm, ⟨24, _⟩ => ⟨S1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S16384x1024, .f32⟩
  | .hbm, ⟨31, _⟩ => ⟨S16384x1024, .f32⟩
  | .hbm, ⟨32, _⟩ => ⟨S1024x1024, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== ConvLayer.lean ====
abbrev S2x8192x1024 : Shape := ⟨3, ![2, 8192, 1024]⟩
abbrev S1x1024 : Shape := ⟨2, ![1, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S16384x1024 : Shape := ⟨2, ![16384, 1024]⟩
abbrev S1024 : Shape := ⟨1, ![1024]⟩
abbrev S1024x3072 : Shape := ⟨2, ![1024, 3072]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S3x1024 : Shape := ⟨2, ![3, 1024]⟩
abbrev S8x1024 : Shape := ⟨2, ![8, 1024]⟩

abbrev nBuf : Space → Nat
  | .hbm => 16
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S1024x3072, .f32⟩
  | .hbm, ⟨9, _⟩ => ⟨S1024x3072, .bf16⟩
  | .hbm, ⟨10, _⟩ => ⟨S16384x1024, .f32⟩
  | .hbm, ⟨11, _⟩ => ⟨S16384x1024, .f32⟩
  | .hbm, ⟨12, _⟩ => ⟨S3x1024, .f32⟩
  | .hbm, ⟨13, _⟩ => ⟨S1024x1024, .f32⟩
  | .hbm, ⟨14, _⟩ => ⟨S1024x1024, .bf16⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S3x1024, .f32⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S3x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ConvLayerRefIdeal.lean ====
abbrev S2x8192x1024 : Shape := ⟨3, ![2, 8192, 1024]⟩
abbrev S1x1024 : Shape := ⟨2, ![1, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3072 : Shape := ⟨2, ![1024, 3072]⟩
abbrev S2x8192x3072 : Shape := ⟨3, ![2, 8192, 3072]⟩
abbrev S3x1024 : Shape := ⟨2, ![3, 1024]⟩
abbrev S2x8194x1024 : Shape := ⟨3, ![2, 8194, 1024]⟩
abbrev S1024x1024 : Shape := ⟨2, ![1024, 1024]⟩
abbrev S16384x1024 : Shape := ⟨2, ![16384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1024x3072, .f32⟩
  | .hbm, ⟨23, _⟩ => ⟨S2x8192x3072, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S3x1024, .f32⟩
  | .hbm, ⟨28, _⟩ => ⟨S2x8192x1024, .f32⟩
  | .hbm, ⟨29, _⟩ => ⟨S_, .i32⟩
  | .hbm, ⟨30, _⟩ => ⟨S_, .f32⟩
  | .hbm, ⟨31, _⟩ => ⟨S2x8194x1024, .f32⟩
  | .hbm, ⟨32, _⟩ => ⟨S1x1024, .f32⟩
  | .hbm, ⟨33, _⟩ => ⟨S1024, .f32⟩
  | .hbm, ⟨34, _⟩ => ⟨S2x8192x1024, .f32⟩
  | .hbm, ⟨35, _⟩ => ⟨S1x1x1024, .f32⟩
  | .hbm, ⟨36, _⟩ => ⟨S2x8192x1024, .f32⟩
  | .hbm, ⟨37, _⟩ => ⟨S2x8192x1024, .f32⟩
  | .hbm, ⟨38, _⟩ => ⟨S1x1024, .f32⟩
  | .hbm, ⟨39, _⟩ => ⟨S1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S1x1024, .f32⟩
  | .hbm, ⟨46, _⟩ => ⟨S1024, .f32⟩
  | .hbm, ⟨47, _⟩ => ⟨S2x8192x1024, .f32⟩
  | .hbm, ⟨48, _⟩ => ⟨S1x1x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S1024x1024, .f32⟩
  | .hbm, ⟨54, _⟩ => ⟨S2x8192x1024, .f32⟩
  | .hbm, ⟨55, _⟩ => ⟨S2x8192x1024, .f32⟩
  | .hbm, ⟨56, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== Proof.AttnIdeal.Loop.lean ====
/- The loop over the heads that fills the table of biases at the first point of the grid.

   Per head `k` the body stores one plane of the table, `[k, :, :]`; the value of the plane comes out of a loop over
   the buckets (`k0_t2_loop`), which reads the table of relative biases in scalar memory and stores nothing. The
   invariant of the outer loop: the planes of the heads before `k` have been stored, last first, and the scalar
   memory is as it was. -/
module

public import proofs.«01_k».proof.Proof.Gen.AttnIdeal.Loops
public import Idealize.ShloMosaic.Lib.Exec
public import Idealize.ShloMosaic.Lib.Tactic
public import Idealize.ShloMosaic.Lib.Pipeline.Kit

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000

/-- What one trip holds: the relative biases it reads, at their contents, and the table it stores into. -/
abbrev Held (c : Dev nD) (arg9 : Memref sig .tc .smem S32x16 .f32) (X9 : BufTy.Contents (Elt F) arg9.view.ty)
    (arg14 : Memref sig .tc .vmem S16x128x384 .f32) (f : BufTy.Contents (Elt F) arg14.view.ty) : sProp 𝕄 :=
  iprop((arg9.view.loc (c : Thread nD τ) ↦[arg9.view.set]{fullShare} X9)
    ∗ (arg14.view.loc (c : Thread nD τ) ↦[arg14.view.set]{fullShare} f))

/-- One trip: the pieces it stores, and the proof that it stores them. -/
@[irreducible] def plane (𝒱 : Variants) (c : Dev nD) (bd : Option 𝒱.V) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (k0_h1 : k0_cond1 i = 1#1) (v528 : Vec F S128x384 .i32) (X9 : BufTy.Contents (Elt F) arg9.view.ty) (k : Fin k0_t1_loop.trips) :
    { L : List (View.Piece (Elt F) S16x128x384 .f32) // ∀ (E : Set ℕ) (f : BufTy.Contents (Elt F) arg14.view.ty),
      Held (F := F) c arg9 X9 arg14 f
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 k PUnit.unit)
          (fun _ => Held (F := F) c arg9 X9 arg14 (arg14.view.writes (Elt F) f L)) } := by
  have hk : k.val < 16 := Nat.lt_of_lt_of_le k.isLt k0_t1_abs.2.1
  refine ⟨?_, fun E f => ?run⟩
  case run =>
    unfold k0_t1_body
    iintro ⟨H9, H14⟩
    sl_exec
    sl_step
    sl_close

/-- The pieces of trip `k`. -/
abbrev planeL (𝒱 : Variants) (c : Dev nD) (bd : Option 𝒱.V) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (k0_h1 : k0_cond1 i = 1#1) (v528 : Vec F S128x384 .i32) (X9 : BufTy.Contents (Elt F) arg9.view.ty) (k : Fin k0_t1_loop.trips) : List (View.Piece (Elt F) S16x128x384 .f32) :=
  (plane (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 k).1

/-- The pieces of trip `k` put before those of the trips before it. -/
@[irreducible] def planesStep (𝒱 : Variants) (c : Dev nD) (bd : Option 𝒱.V) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (k0_h1 : k0_cond1 i = 1#1) (v528 : Vec F S128x384 .i32) (X9 : BufTy.Contents (Elt F) arg9.view.ty) (k : ℕ) (prev : List (View.Piece (Elt F) S16x128x384 .f32)) : List (View.Piece (Elt F) S16x128x384 .f32) :=
  if h : k < k0_t1_loop.trips then planeL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 ⟨k, h⟩ ++ prev else prev

/-- The pieces stored by the trips before `k`, last first. -/
def planes (𝒱 : Variants) (c : Dev nD) (bd : Option 𝒱.V) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (k0_h1 : k0_cond1 i = 1#1) (v528 : Vec F S128x384 .i32) (X9 : BufTy.Contents (Elt F) arg9.view.ty) : ℕ → List (View.Piece (Elt F) S16x128x384 .f32)
  | 0 => []
  | k + 1 => planesStep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 k (planes 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 k)

theorem planes_succ (𝒱 : Variants) (c : Dev nD) (bd : Option 𝒱.V) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (k0_h1 : k0_cond1 i = 1#1) (v528 : Vec F S128x384 .i32) (X9 : BufTy.Contents (Elt F) arg9.view.ty) (k : Fin k0_t1_loop.trips) :
    planes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 (k.val + 1)
      = planeL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 k ++ planes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 k.val := by
  rw [planes.eq_2]; unfold planesStep; exact dif_pos k.isLt

/-- Before trip `k`: the relative biases as they were, the table with the planes of the trips before `k` stored over
    what it held at the loop's entry. -/
abbrev loopHolds (𝒱 : Variants) (c : Dev nD) (bd : Option 𝒱.V) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (k0_h1 : k0_cond1 i = 1#1) (v528 : Vec F S128x384 .i32) (X9 : BufTy.Contents (Elt F) arg9.view.ty) (G : BufTy.Contents (Elt F) arg14.view.ty) (k : ℕ) (_u : PUnit) : sProp 𝕄 :=
  iprop((arg9.view.loc (c : Thread nD τ) ↦[arg9.view.set]{fullShare} X9)
    ∗ ∃ f, (arg14.view.loc (c : Thread nD τ) ↦[arg14.view.set]{fullShare} f) ∗ ⌜f = arg14.view.writes (Elt F) G (planes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 k)⌝)

set_option warn.classDefReducibility false in
/-- The outer loop by its invariant. -/
@[sl_loop] def headsLoop (𝒱 : Variants) (c : Dev nD) (bd : Option 𝒱.V) (E : Set ℕ) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (k0_h1 : k0_cond1 i = 1#1) (v528 : Vec F S128x384 .i32) (X9 : BufTy.Contents (Elt F) arg9.view.ty) (G : BufTy.Contents (Elt F) arg14.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 where
  inv := loopHolds (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 G
  step k acc := by
    iintro ⟨H9, %f, H14, %hf⟩
    iapply (wp_wand_r Idealize.ShloMosaic.frame (wpE (defs₀ (F := F)) 𝒱 (c : Thread nD τ) bd) E)
    isplitl [H9 H14]
    · iapply ((plane (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 k).2 E f)
      isplitl [H9]; · iexact H9
      iexact H14
    · iintro %_ ⟨H9, H14⟩
      unfold loopHolds
      rw [planes_succ]
      isplitl [H9]; · iexact H9
      iexists _; isplitl [H14]; · iexact H14
      ipureintro; rw [hf, ← View.writes_append]

end Cert.AttnIdeal.Body

end
-- ==== Proof.AttnIdeal.Points.lean ====
/- The two kinds of points of the attention's grid and the memory the body of a point works on. -/
module

public import proofs.«01_k».proof.Proof.Gen.AttnIdeal.Frame
public import proofs.«01_k».proof.Proof.AttnIdeal.Loop

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [cond0_0, k0_cond1, e0]
    word_cmp
   : ∀ t : Fin grid0.N, cond0_0 (grid0.coords t) ↔ t.val % 128 = 0)

/-! ## The kernel body on any staging memrefs: a subtype the run finds -/

/-- One staging buffer of output window 12, through which its contents are stated (`View.read_writes_of_cover`: the
    choice does not matter). -/
abbrev VO0_12 : View sig .tc .vmem S128x1024 .f32 := (Memref.whole cc0_stg12_0 : Memref sig .tc .vmem S128x1024 .f32).view
/-- Each window's current staging memref at point `t`, spelled as the pipeline passes it (`bodyAt0`), and its wholeness. -/
abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x384 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S32x16 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x1024 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S16x128x384 .f32 := Memref.whole cc0_scratch0
abbrev scM0_1 : Memref sig .tc .vmem S128x1024 .bf16 := Memref.whole cc0_scratch1
/-- The scratch `arg14` the kernel carries between points, as a view: what it holds is stated through it. -/
abbrev VS0_0 : View sig .tc .vmem S16x128x384 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.AttnIdeal.Body

end
-- ==== Proof.AttnIdeal.RunA.lean ====
/- The body at the first point: it fills the table of biases, then computes its block. -/
module

public import proofs.«01_k».proof.Proof.AttnIdeal.Points

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (hc0 : cond0_0 i)
    (x0 : Vec F S128x1024 .bf16) (x1 : Vec F S128x256 .bf16) (x2 : Vec F S128x256 .bf16) (x3 : Vec F S128x256 .bf16) (x4 : Vec F S128x256 .bf16) (x5 : Vec F S128x256 .bf16) (x6 : Vec F S128x256 .bf16) (x7 : Vec F S128x384 .i32) (x8 : Vec F S32x16 .f32) (x9 : Vec F S16 .f32) (x10 : Vec F S128x1024 .f32) (x11 : Vec F S1024x1024 .bf16) :
    Σ' (L12 : List (View.Piece (Elt F) S128x1024 .f32)), Σ' (LS0 : List (View.Piece (Elt F) S16x128x384 .f32)), { LT1 : List (View.Piece (Elt F) S128x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ d, owns (c : Thread nD τ) arg15 fullShare d)) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, [], fun E K => ?run⟩
  case run =>
    simp only [cc0_attn_eq_skeleton]; unfold cc0_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    have hrd0 : ∀ (𝒱 : Variants) (c : Dev nD) (bd : Option 𝒱.V) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (k0_h1 : k0_cond1 i = 1#1) (v528 : Vec F S128x384 .i32) (X9 : BufTy.Contents (Elt F) arg9.view.ty) (hrdF : BufTy.Contents (Elt F) arg14.view.ty) (hrdB : LoadRect S16x128x384), arg14.view.readAt (Elt F) hrdB (arg14.view.writes (Elt F) hrdF (planes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 (Scf.trips k0_t1_loop.lb k0_t1_loop.ub k0_t1_loop.st))) = arg14.view.readCov (planes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 hrdF hrdB => View.readAt_writes_of_cover _ hrdF _ hrdB (fun hrdJ => View.cover_of_tiledL (planes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v528 X9 (Scf.trips k0_t1_loop.lb k0_t1_loop.ub k0_t1_loop.st)) S1x128x384.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]; · iexists _; iexact HS0
    iexists _, _; isplitr; swap; · iexact HS1
    ipureintro; rfl

end Cert.AttnIdeal.Body

end
-- ==== Proof.AttnIdeal.RunB.lean ====
/- The body at a later point: it reads the table of biases and computes its block. -/
module

public import proofs.«01_k».proof.Proof.AttnIdeal.RunA

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 127: 127 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (hc0 : ¬cond0_0 i)
    (x0 : Vec F S128x1024 .bf16) (x1 : Vec F S128x256 .bf16) (x2 : Vec F S128x256 .bf16) (x3 : Vec F S128x256 .bf16) (x4 : Vec F S128x256 .bf16) (x5 : Vec F S128x256 .bf16) (x6 : Vec F S128x256 .bf16) (x7 : Vec F S128x384 .i32) (x8 : Vec F S32x16 .f32) (x9 : Vec F S16 .f32) (x10 : Vec F S128x1024 .f32) (x11 : Vec F S1024x1024 .bf16) (xs0 : Vec F S16x128x384 .f32) :
    Σ' (L12 : List (View.Piece (Elt F) S128x1024 .f32)), Σ' (LS0 : List (View.Piece (Elt F) S16x128x384 .f32)), { LT1 : List (View.Piece (Elt F) S128x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xs0 ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ owns (c : Thread nD τ) arg14 fullShare xs0 ∗ (∃ f, arg15.view.loc (c : Thread nD τ) ↦[arg15.view.set]{fullShare} arg15.view.writes (Elt F) f LT1)) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], ?_, fun E K => ?run⟩
  case run =>
    simp only [cc0_attn_eq_skeleton]; unfold cc0_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]
    · iexists _; isplitr; · ipureintro; exact harg14.read_unread _
      iexact HS0
    iexists _; iexact HS1

end Cert.AttnIdeal.Body

end
-- ==== Proof.AttnIdeal.Frame.lean ====
/- The attention's run over its grid: what every point leaves, the whole run, and its frame. -/
module

public import proofs.«01_k».proof.Proof.AttnIdeal.RunB
public import Idealize.ShloMosaic.Lib.Claim

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 12 tile its block (1 store of `S128x1024`, checked by the kernel's evaluation: Lib/Ring.lean `Piece.tiledL`, linear in the pieces, through a loop's `@[irreducible]` trip theorem too), so they cover it. -/
theorem cover0_A_12 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (hc0 : cond0_0 i)
    (x0 : Vec F S128x1024 .bf16) (x1 : Vec F S128x256 .bf16) (x2 : Vec F S128x256 .bf16) (x3 : Vec F S128x256 .bf16) (x4 : Vec F S128x256 .bf16) (x5 : Vec F S128x256 .bf16) (x6 : Vec F S128x256 .bf16) (x7 : Vec F S128x384 .i32) (x8 : Vec F S32x16 .f32) (x9 : Vec F S16 .f32) (x10 : Vec F S128x1024 .f32) (x11 : Vec F S1024x1024 .bf16) (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).1 S128x1024.size (by sl_kernel_rfl) y

/-- What case A leaves in output 12's staging buffer: its pieces read back over junk. -/
def out0_A_12 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (hc0 : cond0_0 i)
    (x0 : Vec F S128x1024 .bf16) (x1 : Vec F S128x256 .bf16) (x2 : Vec F S128x256 .bf16) (x3 : Vec F S128x256 .bf16) (x4 : Vec F S128x256 .bf16) (x5 : Vec F S128x256 .bf16) (x6 : Vec F S128x256 .bf16) (x7 : Vec F S128x384 .i32) (x8 : Vec F S32x16 .f32) (x9 : Vec F S16 .f32) (x10 : Vec F S128x1024 .f32) (x11 : Vec F S1024x1024 .bf16) : Vec F S128x1024 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).1)

/-- Case A's pieces for scratch `arg14`, which the kernel carries between points, cover it: 16 pieces of `S1x128x384` tiling it (Lib/Ring.lean `Piece.tiledL`). -/
theorem scover0_A_0 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (hc0 : cond0_0 i)
    (x0 : Vec F S128x1024 .bf16) (x1 : Vec F S128x256 .bf16) (x2 : Vec F S128x256 .bf16) (x3 : Vec F S128x256 .bf16) (x4 : Vec F S128x256 .bf16) (x5 : Vec F S128x256 .bf16) (x6 : Vec F S128x256 .bf16) (x7 : Vec F S128x384 .i32) (x8 : Vec F S32x16 .f32) (x9 : Vec F S16 .f32) (x10 : Vec F S128x1024 .f32) (x11 : Vec F S1024x1024 .bf16) (y : S16x128x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).2.1 S1x128x384.size (by sl_kernel_rfl) y

/-- What case A leaves in scratch `arg14`: its pieces read back over junk. -/
def sout0_A_0 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (hc0 : cond0_0 i)
    (x0 : Vec F S128x1024 .bf16) (x1 : Vec F S128x256 .bf16) (x2 : Vec F S128x256 .bf16) (x3 : Vec F S128x256 .bf16) (x4 : Vec F S128x256 .bf16) (x5 : Vec F S128x256 .bf16) (x6 : Vec F S128x256 .bf16) (x7 : Vec F S128x384 .i32) (x8 : Vec F S32x16 .f32) (x9 : Vec F S16 .f32) (x10 : Vec F S128x1024 .f32) (x11 : Vec F S1024x1024 .bf16) : Vec F S16x128x384 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).2.1)

/-- Case B's pieces for output 12 tile its block (1 store of `S128x1024`, checked by the kernel's evaluation: Lib/Ring.lean `Piece.tiledL`, linear in the pieces, through a loop's `@[irreducible]` trip theorem too), so they cover it. -/
theorem cover0_B_12 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (hc0 : ¬cond0_0 i)
    (x0 : Vec F S128x1024 .bf16) (x1 : Vec F S128x256 .bf16) (x2 : Vec F S128x256 .bf16) (x3 : Vec F S128x256 .bf16) (x4 : Vec F S128x256 .bf16) (x5 : Vec F S128x256 .bf16) (x6 : Vec F S128x256 .bf16) (x7 : Vec F S128x384 .i32) (x8 : Vec F S32x16 .f32) (x9 : Vec F S16 .f32) (x10 : Vec F S128x1024 .f32) (x11 : Vec F S1024x1024 .bf16) (xs0 : Vec F S16x128x384 .f32) (y : S128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs0).1 S128x1024.size (by sl_kernel_rfl) y

/-- What case B leaves in output 12's staging buffer: its pieces read back over junk. -/
def out0_B_12 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (hc0 : ¬cond0_0 i)
    (x0 : Vec F S128x1024 .bf16) (x1 : Vec F S128x256 .bf16) (x2 : Vec F S128x256 .bf16) (x3 : Vec F S128x256 .bf16) (x4 : Vec F S128x256 .bf16) (x5 : Vec F S128x256 .bf16) (x6 : Vec F S128x256 .bf16) (x7 : Vec F S128x384 .i32) (x8 : Vec F S32x16 .f32) (x9 : Vec F S16 .f32) (x10 : Vec F S128x1024 .f32) (x11 : Vec F S1024x1024 .bf16) (xs0 : Vec F S16x128x384 .f32) : Vec F S128x1024 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs0).1)

/-- Case B stores nothing into scratch `arg14`: it holds what the point before left. -/
def sout0_B_0 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (hc0 : ¬cond0_0 i)
    (x0 : Vec F S128x1024 .bf16) (x1 : Vec F S128x256 .bf16) (x2 : Vec F S128x256 .bf16) (x3 : Vec F S128x256 .bf16) (x4 : Vec F S128x256 .bf16) (x5 : Vec F S128x256 .bf16) (x6 : Vec F S128x256 .bf16) (x7 : Vec F S128x384 .i32) (x8 : Vec F S32x16 .f32) (x9 : Vec F S16 .f32) (x10 : Vec F S128x1024 .f32) (x11 : Vec F S1024x1024 .bf16) (xs0 : Vec F S16x128x384 .f32) : Vec F S16x128x384 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x1024 .f32 × Vec F S16x128x384 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 128 = 0 then
      (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
    else
      (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2)

/-- `outsAt0` at a point of case A: that case's contents. -/
theorem outsAt0_A (c : Dev nD) (t : Fin cfg0.N) (h0 : t.val % 128 = 0) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 128 = 0) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  have hN : t.val < 128 := lt_of_lt_of_eq t.isLt (show cfg0.N = 128 from N_0)
  by_cases h0 : t.val % 128 = 0
  · by_cases hz : t.val = 0
    · rw [PhiS_castSucc m c t, PhiS_zero m c _ _ hz, PhiA0_eq]
      rw [outsAt0_A m c t h0]
      unfold out0_A_12 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      iintro ⟨H0, H1, H2, H3, H4, H5, H6, H7, H8, H9, H10, H11, ⟨%e12, H12⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _)
    · exfalso; have hN : t.val < 128 := lt_of_lt_of_eq t.isLt (show cfg0.N = 128 from N_0); omega
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold out0_B_12 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      iintro ⟨H0, H1, H2, H3, H4, H5, H6, H7, H8, H9, H10, H11, ⟨%e12, H12⟩, HS0, ⟨%fT1, HS1⟩⟩
      isplitl [HS0 HS1 Hg]
      · isplitl [HS0 HS1]
        · isplitl [HS0]
          · iexact HS0
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The program runs to its end, its arguments are unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.AttnIdeal.Body

end
-- ==== Proof.Qkv.lean ====
/- The projections of the attention layer: what the kernel leaves in its three results is the reference's queries, keys
   and values. Each point of the grid computes 512 rows; a row of the result reads the same row of the input. -/
module

public import proofs.«01_k».proof.Proof.Gen.QkvIdeal.Value
public import proofs.«01_k».proof.Proof.Gen.QkvRefIdeal.Read
public import Idealize.ShloMosaic.Lib.Pipeline.ValueKit
public import Idealize.ShloMosaic.Lib.Pointwise

@[expose] public section

set_option maxRecDepth 16384

noncomputable section

namespace Cert.Proof.Qkv

open Cert.QkvIdeal Cert.QkvIdeal.Gen Cert.QkvIdeal.Value
open Idealize.ShloMosaic Idealize.ShloMosaic.TcCoe Idealize.SL.Sem
open Cert.QkvRefIdeal.Read

variable (m : (ℓ : Loc nD τ sig) → Buf (Elt Ideal) ℓ) (ρ : Dev nD → PrngReg)

/-- Which block each window is at, at every point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- Dividing by eight is multiplying by one eighth. -/
theorem div_eight (x : EReal) :
    Ideal.div x (Ideal.ofBits .f32 0x41000000#32) = x * Ideal.ofBits .f32 0x3E000000#32 := by
  have h8 : Ideal.ofBits .f32 0x41000000#32 = ((8 : ℝ) : EReal) := by
    simp [Ideal.ofBits, Ideal.ieee, -EReal.coe_mul]; norm_num
  have h1 : Ideal.ofBits .f32 0x3E000000#32 = ((1 / 8 : ℝ) : EReal) := by
    simp [Ideal.ofBits, Ideal.ieee, -EReal.coe_mul]; norm_num
  rw [h8, h1, Ideal.div_coe (by norm_num)]

/-- The queries. -/
theorem final3 (c : Dev nD) : (dats m 0 c).arrAt 3 cfg0.N
    = val_main_v21 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  pointwise [k0_pay2, k0_pay1, val_main_v21, val_main_v18, val_main_v17, val_main_cst_2, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  rw [div_eight]
  blk_point [iblk, V, idx t]

/-- The keys. -/
theorem final4 (c : Dev nD) : (dats m 0 c).arrAt 4 cfg0.N
    = val_main_v22 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  pointwise [k0_pay3, k0_pay1, val_main_v22, val_main_v19,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  blk_point [iblk, V, idx t]

/-- The values. -/
theorem final5 (c : Dev nD) : (dats m 0 c).arrAt 5 cfg0.N
    = val_main_v23 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  pointwise [k0_pay4, k0_pay1, val_main_v23, val_main_v20,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  blk_point [iblk, V, idx t]

end Cert.Proof.Qkv

end
-- ==== Proof.ConvIn.lean ====
/- The projection that feeds the convolution: what the kernel leaves in its two results is the reference's gated rows and
   output gate. Each point of the grid computes 512 rows; a row of a result reads the same row of the input. -/
module

public import proofs.«01_k».proof.Proof.Gen.ConvInIdeal.Value
public import proofs.«01_k».proof.Proof.Gen.ConvInRefIdeal.Read
public import Idealize.ShloMosaic.Lib.Pipeline.ValueKit
public import Idealize.ShloMosaic.Lib.Pointwise

@[expose] public section

set_option maxRecDepth 16384

noncomputable section

namespace Cert.Proof.ConvIn

open Cert.ConvInIdeal Cert.ConvInIdeal.Gen Cert.ConvInIdeal.Value
open Idealize.ShloMosaic Idealize.ShloMosaic.TcCoe Idealize.SL.Sem
open Cert.ConvInRefIdeal.Read

variable (m : (ℓ : Loc nD τ sig) → Buf (Elt Ideal) ℓ) (ρ : Dev nD → PrngReg)

/-- Which block each window is at, at every point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The gated rows. -/
theorem final3 (c : Dev nD) : (dats m 0 c).arrAt 3 cfg0.N
    = val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  pointwise [k0_pay3, k0_pay1, val_main_v19, val_main_v18, val_main_v17, val_main_v15, val_main_v14, val_main_v13, val_main_v12, val_main_v11,
    val_main_v10, val_main_v9, val_main_v8, val_main_v7, val_main_v6, val_main_v5, val_main_v4, val_main_v3, val_main_v2, val_main_v1,
    val_main_v0, val_main_cst, val_main_cst_0, val_main_cst_1]
  blk_point [iblk, V, idx t]

/-- The output gate. -/
theorem final4 (c : Dev nD) : (dats m 0 c).arrAt 4 cfg0.N
    = val_main_v16 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  pointwise [k0_pay2, k0_pay1, val_main_v16, val_main_v15, val_main_v14, val_main_v13, val_main_v12, val_main_v11,
    val_main_v10, val_main_v9, val_main_v8, val_main_v7, val_main_v6, val_main_v5, val_main_v4, val_main_v3, val_main_v2, val_main_v1,
    val_main_v0, val_main_cst, val_main_cst_0, val_main_cst_1]
  blk_point [iblk, V, idx t]

end Cert.Proof.ConvIn

end
-- ==== Proof.ConvOut.lean ====
/- The convolution and the projection after it: a row of the result mixes a row of the gated rows with its two neighbours
   in the same sequence, which the kernel takes from the blocks before and after its own at the ends of a block. -/
module

public import proofs.«01_k».proof.Proof.Gen.ConvOutIdeal.Value
public import proofs.«01_k».proof.Proof.Gen.ConvOutRefIdeal.Read
public import Idealize.ShloMosaic.Lib.Pipeline.ValueKit
public import Idealize.ShloMosaic.Lib.Pointwise

@[expose] public section

set_option maxRecDepth 16384

noncomputable section

namespace Cert.Proof.ConvOut

open Cert.ConvOutIdeal Cert.ConvOutIdeal.Gen Cert.ConvOutIdeal.Value
open Idealize.ShloMosaic Idealize.ShloMosaic.TcCoe Idealize.SL.Sem
open Cert.ConvOutRefIdeal.Read

variable (m : (ℓ : Loc nD τ sig) → Buf (Elt Ideal) ℓ) (ρ : Dev nD → PrngReg)

/-- Which block each window is at, at every point. -/
theorem idx : ∀ t : Fin cfg0.N, win0_0.index t = ![t.val, 0] ∧ win0_1.index t = ![64 * t.val - 1, 0]
    ∧ win0_2.index t = ![min (64 * t.val + 64) 2047, 0] ∧ win0_3.index t = ![t.val, 0] ∧ win0_4.index t = ![t.val, 0]
    ∧ win0_5.index t = ![0, 0] ∧ win0_6.index t = ![0, 0] ∧ win0_7.index t = ![t.val, 0] :=
  (by decide +kernel : ∀ t : Fin grid0.N, _)

/-- The point's place among the sixteen blocks of its sequence, as the kernel computes it. -/
def pos (t : Fin grid0.N) : BitVec 32 := (Scalar.select
      (Scalar.andi (Scalar.xori (Scalar.cmpi CmpIPredicate.slt (Scalar.remsi (BitVec.ofNat 32 (grid0.coords t 0).val) (Scalar.select (Scalar.cmpi CmpIPredicate.eq 16#32 0#32) 1#32 16#32)) 0#32)
          (Scalar.cmpi CmpIPredicate.slt (Scalar.select (Scalar.cmpi CmpIPredicate.eq 16#32 0#32) 1#32 16#32) 0#32))
        (Scalar.cmpi CmpIPredicate.ne (Scalar.remsi (BitVec.ofNat 32 (grid0.coords t 0).val) (Scalar.select (Scalar.cmpi CmpIPredicate.eq 16#32 0#32) 1#32 16#32)) 0#32))
      (Scalar.addi (Scalar.remsi (BitVec.ofNat 32 (grid0.coords t 0).val) (Scalar.select (Scalar.cmpi CmpIPredicate.eq 16#32 0#32) 1#32 16#32)) (Scalar.select (Scalar.cmpi CmpIPredicate.eq 16#32 0#32) 1#32 16#32))
      (Scalar.remsi (BitVec.ofNat 32 (grid0.coords t 0).val) (Scalar.select (Scalar.cmpi CmpIPredicate.eq 16#32 0#32) 1#32 16#32)))

theorem pos_eq (t : Fin grid0.N) : pos t = (Scalar.select
      (Scalar.andi (Scalar.xori (Scalar.cmpi CmpIPredicate.slt (Scalar.remsi (BitVec.ofNat 32 (grid0.coords t 0).val) (Scalar.select (Scalar.cmpi CmpIPredicate.eq 16#32 0#32) 1#32 16#32)) 0#32)
          (Scalar.cmpi CmpIPredicate.slt (Scalar.select (Scalar.cmpi CmpIPredicate.eq 16#32 0#32) 1#32 16#32) 0#32))
        (Scalar.cmpi CmpIPredicate.ne (Scalar.remsi (BitVec.ofNat 32 (grid0.coords t 0).val) (Scalar.select (Scalar.cmpi CmpIPredicate.eq 16#32 0#32) 1#32 16#32)) 0#32))
      (Scalar.addi (Scalar.remsi (BitVec.ofNat 32 (grid0.coords t 0).val) (Scalar.select (Scalar.cmpi CmpIPredicate.eq 16#32 0#32) 1#32 16#32)) (Scalar.select (Scalar.cmpi CmpIPredicate.eq 16#32 0#32) 1#32 16#32))
      (Scalar.remsi (BitVec.ofNat 32 (grid0.coords t 0).val) (Scalar.select (Scalar.cmpi CmpIPredicate.eq 16#32 0#32) 1#32 16#32))) := rfl

/-- The first block of a sequence. -/
theorem pos_first : ∀ t : Fin grid0.N, Scalar.cmpi CmpIPredicate.eq (pos t) 0#32 = if t.val % 16 = 0 then 1#1 else 0#1 := by
  decide +kernel

/-- The last block of a sequence. -/
theorem pos_last : ∀ t : Fin grid0.N, Scalar.cmpi CmpIPredicate.eq (pos t) 15#32 = if t.val % 16 = 15 then 1#1 else 0#1 := by
  decide +kernel

theorem row_first (y : Fin 512) : IntOp.cmpi CmpIPredicate.eq (BitVec.ofNat 32 y.val) 0#32 = if y.val = 0 then 1#1 else 0#1 := by
  revert y; decide +kernel

theorem row_last (y : Fin 512) : IntOp.cmpi CmpIPredicate.eq (BitVec.ofNat 32 y.val) 511#32 = if y.val = 511 then 1#1 else 0#1 := by
  revert y; decide +kernel

theorem sel {α : Type} (p : Prop) [Decidable p] (a b : α) : Scalar.select (if p then 1#1 else 0#1) a b = if p then a else b := by
  by_cases h : p <;> simp [Scalar.select, h]

/-- The row itself. -/
theorem row_same (A : S16384x1024.Idx → EReal) (t y0 : ℕ) (x : Fin 1024) (ht : t < 32) (hy : y0 < 512) :
    A (ix2 ⟨512 * t + y0, by omega⟩ x)
      = if h : (512 * t + y0) / 8192 < 2 ∧ (512 * t + y0) % 8192 < 8192 then
          A (ix2 ⟨(512 * t + y0) / 8192 * 8192 + (512 * t + y0) % 8192, by omega⟩ x)
        else 0 := by
  rw [dif_pos (by omega)]
  exact congrArg A (congrArg (ix2 · x) (Fin.ext (by first | omega | (simp only []; omega))))

/-- The row before: the last row of the block before at the first row of a block, nothing at the start of a sequence. -/
theorem row_before (A : S16384x1024.Idx → EReal) (p : EReal) (t y0 : ℕ) (x : Fin 1024) (ht : t < 32) (hy : y0 < 512)
    (hp : t % 16 ≠ 0 → p = A (ix2 ⟨512 * t - 1, by omega⟩ x)) :
    (if y0 = 0 then if t % 16 = 0 then 0 else p else A (ix2 ⟨512 * t + (y0 + 512 - 1) % 512, by omega⟩ x))
      = if h : (512 * t + y0) / 8192 < 2 ∧ 1 ≤ (512 * t + y0) % 8192 ∧ (512 * t + y0) % 8192 - 1 < 8192 then
          A (ix2 ⟨(512 * t + y0) / 8192 * 8192 + ((512 * t + y0) % 8192 - 1), by omega⟩ x)
        else 0 := by
  by_cases hy0 : y0 = 0
  · by_cases ht0 : t % 16 = 0
    · rw [if_pos hy0, if_pos ht0, dif_neg (by omega)]
    · rw [if_pos hy0, if_neg ht0, dif_pos (by omega), hp ht0]
      exact congrArg A (congrArg (ix2 · x) (Fin.ext (by first | omega | (simp only []; omega))))
  · rw [if_neg hy0, dif_pos (by omega)]
    exact congrArg A (congrArg (ix2 · x) (Fin.ext (by first | omega | (simp only []; omega))))

/-- The row after: the first row of the block after at the last row of a block, nothing at the end of a sequence. -/
theorem row_after (A : S16384x1024.Idx → EReal) (p : EReal) (t y0 : ℕ) (x : Fin 1024) (ht : t < 32) (hy : y0 < 512)
    (hp : (h : t % 16 ≠ 15) → p = A (ix2 ⟨512 * t + 512, by omega⟩ x)) :
    (if y0 = 511 then if t % 16 = 15 then 0 else p else A (ix2 ⟨512 * t + (y0 + 512 - 511) % 512, by omega⟩ x))
      = if h : (512 * t + y0) / 8192 < 2 ∧ 1 ≤ 2 + (512 * t + y0) % 8192 ∧ 2 + (512 * t + y0) % 8192 - 1 < 8192 then
          A (ix2 ⟨(512 * t + y0) / 8192 * 8192 + (2 + (512 * t + y0) % 8192 - 1), by omega⟩ x)
        else 0 := by
  by_cases hy0 : y0 = 511
  · by_cases ht0 : t % 16 = 15
    · rw [if_pos hy0, if_pos ht0, dif_neg (by omega)]
    · rw [if_pos hy0, if_neg ht0, dif_pos (by omega), hp ht0]
      exact congrArg A (congrArg (ix2 · x) (Fin.ext (by first | omega | (simp only []; omega))))
  · rw [if_neg hy0, dif_pos (by omega)]
    exact congrArg A (congrArg (ix2 · x) (Fin.ext (by first | omega | (simp only []; omega))))

/-- Where the block of a point lies in the result. -/
theorem place (t : Fin cfg0.N) (y0 : Fin 512) (y1 : Fin 1024) :
    ((View.whole main_v3).slice (win0_7.rect t)).emb (ix2 y0 y1)
      = ix2 ⟨512 * t.val + y0.val, by have := t.isLt; have : cfg0.N = 32 := rfl; omega⟩ y1 := by
  blk_ext [idx t]

set_option maxHeartbeats 2000000 in
/-- The result. -/
theorem final7 (c : Dev nD) : (dats m 0 c).arrAt 7 cfg0.N
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  frame_out
  idx_vars y
  refine Eq.trans ?_ (congrArg (val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (place t y0 y1).symm)
  pointwise [k0_pay1, k0_pay2, k0_pay3, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_call0_v0]
  simp only [← pos_eq, pos_first, pos_last, row_first, row_last, sel]
  have ht : t.val < 32 := t.isLt
  have hy := y0.isLt
  have h4 : iblk m c 4 t (ix2 y0 y1) = m ((c : Thread nD τ).loc main_arg2) (ix2 ⟨512 * t.val + y0.val, by omega⟩ y1) := by
    blk_ext [iblk, V, idx t]
  have h3 (x : Fin 1024) : iblk m c 3 t (ix2 y0 x) = m ((c : Thread nD τ).loc main_arg1) (ix2 ⟨512 * t.val + y0.val, by omega⟩ x) := by
    blk_ext [iblk, V, idx t]
  have h0 (r : Fin 512) (x : Fin 1024) : iblk m c 0 t (ix2 r x) = m ((c : Thread nD τ).loc main_arg0) (ix2 ⟨512 * t.val + r.val, by omega⟩ x) := by
    blk_ext [iblk, V, idx t]
  have h1 (x : Fin 1024) (h : t.val % 16 ≠ 0) : iblk m c 1 t (ix2 7 x) = m ((c : Thread nD τ).loc main_arg0) (ix2 ⟨512 * t.val - 1, by omega⟩ x) := by
    blk_ext [iblk, V, idx t]
  have h2 (x : Fin 1024) (h : t.val % 16 ≠ 15) : iblk m c 2 t (ix2 0 x) = m ((c : Thread nD τ).loc main_arg0) (ix2 ⟨512 * t.val + 512, by omega⟩ x) := by
    blk_ext [iblk, V, idx t]
  have h6 (x : Fin 1024) : iblk m c 6 t (ix2 x y1) = m ((c : Thread nD τ).loc main_arg4) (ix3 0 x y1) := by
    blk_point [iblk, V, idx t]
  have h5 (k : Fin 3) (x : Fin 1024) : iblk m c 5 t (ix2 k x) = m ((c : Thread nD τ).loc main_arg3) (ix3 0 k x) := by
    blk_point [iblk, V, idx t]
  have z : (FloatOps.sitofp FTy.f32 0#32 : Ideal .f32) = 0 := by
    simp [FloatOps.sitofp]
  simp only [h4, h3, h0, h6, h5, z]
  congr 1
  refine Finset.sum_congr rfl fun x _ => ?_
  congr 2
  congr 1
  · congr 1
    · congr 1
      exact row_before _ _ t.val y0.val x ht hy (h1 x)
    · congr 1
      exact row_same _ t.val y0.val x ht hy
  · congr 1
    exact row_after _ _ t.val y0.val x ht hy (h2 x)

end Cert.Proof.ConvOut

end
-- ==== Proof.Claims.lean ====
/- The claims about the projections and the convolution: each kernel and its reference leave the same arrays. -/
module

public import proofs.«01_k».proof.Defs
public import proofs.«01_k».proof.Proof.Qkv
public import proofs.«01_k».proof.Proof.ConvIn
public import proofs.«01_k».proof.Proof.ConvOut
public import proofs.«01_k».proof.Proof.Gen.QkvIdeal
public import proofs.«01_k».proof.Proof.Gen.QkvRefIdeal
public import proofs.«01_k».proof.Proof.Gen.ConvInIdeal
public import proofs.«01_k».proof.Proof.Gen.ConvInRefIdeal
public import proofs.«01_k».proof.Proof.Gen.ConvOutIdeal
public import proofs.«01_k».proof.Proof.Gen.ConvOutRefIdeal
public import Idealize.ShloMosaic.Lib.Quiescent

@[expose] public section

set_option maxRecDepth 16384

noncomputable section

namespace Cert.Proof

open Idealize.ShloMosaic Idealize.ShloMosaic.TcCoe Idealize.SL.Sem

/-! ## Queries, keys and values -/

theorem quiescent_QkvRefIdeal : Cert.quiescent_QkvRefIdeal (hQkvRefIdeal := Cert.QkvRefIdeal.Gen.facts) := fun m g _ =>
  (θ_run _ _ _).mono (fun r h => ⟨fun c => (h c).2.2.2, sem_eq_zero_of_no_sems (by decide) r.2⟩) (Cert.QkvRefIdeal.Value.run m g)

theorem algebraic_QkvIdeal : Cert.algebraic_QkvIdeal_QkvRefIdeal (hQkvIdeal := Cert.QkvIdeal.Gen.facts) (hQkvRefIdeal := Cert.QkvRefIdeal.Gen.facts) := by
  intro m g m' g' _ h
  refine ⟨fun c => Cert.QkvRefIdeal.Read.val_main_v21 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)), fun c => Cert.QkvRefIdeal.Read.val_main_v22 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)), fun c => Cert.QkvRefIdeal.Read.val_main_v23 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)), ?_, ?_⟩
  · exact (θ_run _ _ _).mono (fun r h c => by
      obtain h := h c
      exact ⟨h.1.trans (Cert.Proof.Qkv.final3 m c), h.2.1.trans (Cert.Proof.Qkv.final4 m c), h.2.2.1.trans (Cert.Proof.Qkv.final5 m c), h.2.2.2⟩) (Cert.QkvIdeal.Value.run_blocks (F := Ideal) m g)
  · refine (θ_run _ _ _).mono (fun r h' c => ?_) (Cert.QkvRefIdeal.Value.run (F := Ideal) m' g')
    obtain h' := h' c
    have e0 := (h c).1
    have e1 := (h c).2.1
    have e2 := (h c).2.2
    exact ⟨h'.1.trans (by rw [Cert.QkvRefIdeal.Read.val_main_v21_eq, e0, e1, e2]), h'.2.1.trans (by rw [Cert.QkvRefIdeal.Read.val_main_v22_eq, e0, e1, e2]), h'.2.2.1.trans (by rw [Cert.QkvRefIdeal.Read.val_main_v23_eq, e0, e1, e2]), h'.2.2.2⟩

/-! ## Before the convolution -/

theorem quiescent_ConvInRefIdeal : Cert.quiescent_ConvInRefIdeal (hConvInRefIdeal := Cert.ConvInRefIdeal.Gen.facts) := fun m g _ =>
  (θ_run _ _ _).mono (fun r h => ⟨fun c => (h c).2.2, sem_eq_zero_of_no_sems (by decide) r.2⟩) (Cert.ConvInRefIdeal.Value.run m g)

theorem algebraic_ConvInIdeal : Cert.algebraic_ConvInIdeal_ConvInRefIdeal (hConvInIdeal := Cert.ConvInIdeal.Gen.facts) (hConvInRefIdeal := Cert.ConvInRefIdeal.Gen.facts) := by
  intro m g m' g' _ h
  refine ⟨fun c => Cert.ConvInRefIdeal.Read.val_main_v19 (F := Ideal) (m ((c.tc : Thread Cert.ConvInIdeal.nD Cert.ConvInIdeal.τ).loc Cert.ConvInIdeal.main_arg0)) (m ((c.tc : Thread Cert.ConvInIdeal.nD Cert.ConvInIdeal.τ).loc Cert.ConvInIdeal.main_arg1)) (m ((c.tc : Thread Cert.ConvInIdeal.nD Cert.ConvInIdeal.τ).loc Cert.ConvInIdeal.main_arg2)), fun c => Cert.ConvInRefIdeal.Read.val_main_v16 (F := Ideal) (m ((c.tc : Thread Cert.ConvInIdeal.nD Cert.ConvInIdeal.τ).loc Cert.ConvInIdeal.main_arg0)) (m ((c.tc : Thread Cert.ConvInIdeal.nD Cert.ConvInIdeal.τ).loc Cert.ConvInIdeal.main_arg1)) (m ((c.tc : Thread Cert.ConvInIdeal.nD Cert.ConvInIdeal.τ).loc Cert.ConvInIdeal.main_arg2)), ?_, ?_⟩
  · exact (θ_run _ _ _).mono (fun r h c => by
      obtain h := h c
      exact ⟨h.1.trans (Cert.Proof.ConvIn.final3 m c), h.2.1.trans (Cert.Proof.ConvIn.final4 m c), h.2.2⟩) (Cert.ConvInIdeal.Value.run_blocks (F := Ideal) m g)
  · refine (θ_run _ _ _).mono (fun r h' c => ?_) (Cert.ConvInRefIdeal.Value.run (F := Ideal) m' g')
    obtain h' := h' c
    have e0 := (h c).1
    have e1 := (h c).2.1
    have e2 := (h c).2.2
    exact ⟨h'.1.trans (by rw [Cert.ConvInRefIdeal.Read.val_main_v19_eq, e0, e1, e2]), h'.2.1.trans (by rw [Cert.ConvInRefIdeal.Read.val_main_v16_eq, e0, e1, e2]), h'.2.2⟩

/-! ## The convolution -/

theorem quiescent_ConvOutRefIdeal : Cert.quiescent_ConvOutRefIdeal (hConvOutRefIdeal := Cert.ConvOutRefIdeal.Gen.facts) := fun m g _ =>
  (θ_run _ _ _).mono (fun r h => ⟨fun c => (h c).2, sem_eq_zero_of_no_sems (by decide) r.2⟩) (Cert.ConvOutRefIdeal.Value.run m g)

theorem algebraic_ConvOutIdeal : Cert.algebraic_ConvOutIdeal_ConvOutRefIdeal (hConvOutIdeal := Cert.ConvOutIdeal.Gen.facts) (hConvOutRefIdeal := Cert.ConvOutRefIdeal.Gen.facts) := by
  intro m g m' g' _ h
  refine ⟨fun c => Cert.ConvOutRefIdeal.Read.val_main_v27 (F := Ideal) (m ((c.tc : Thread Cert.ConvOutIdeal.nD Cert.ConvOutIdeal.τ).loc Cert.ConvOutIdeal.main_arg0)) (m ((c.tc : Thread Cert.ConvOutIdeal.nD Cert.ConvOutIdeal.τ).loc Cert.ConvOutIdeal.main_arg1)) (m ((c.tc : Thread Cert.ConvOutIdeal.nD Cert.ConvOutIdeal.τ).loc Cert.ConvOutIdeal.main_arg2)) (m ((c.tc : Thread Cert.ConvOutIdeal.nD Cert.ConvOutIdeal.τ).loc Cert.ConvOutIdeal.main_arg3)) (m ((c.tc : Thread Cert.ConvOutIdeal.nD Cert.ConvOutIdeal.τ).loc Cert.ConvOutIdeal.main_arg4)), ?_, ?_⟩
  · exact (θ_run _ _ _).mono (fun r h c => by
      obtain h := h c
      exact ⟨h.1.trans (Cert.Proof.ConvOut.final7 m c), h.2⟩) (Cert.ConvOutIdeal.Value.run_blocks (F := Ideal) m g)
  · refine (θ_run _ _ _).mono (fun r h' c => ?_) (Cert.ConvOutRefIdeal.Value.run (F := Ideal) m' g')
    obtain h' := h' c
    have e0 := (h c).1
    have e1 := (h c).2.1
    have e2 := (h c).2.2.1
    have e3 := (h c).2.2.2.1
    have e4 := (h c).2.2.2.2
    exact ⟨h'.1.trans (by rw [Cert.ConvOutRefIdeal.Read.val_main_v27_eq, e0, e1, e2, e3, e4]), h'.2⟩

end Cert.Proof

end
-- ==== Proof.AttnIdeal.Softmax.lean ====
module

public import Idealize.ShloMosaic.Lib.Pipeline.ValueKit
public import Idealize.ShloMosaic.Lib.Pointwise

@[expose] public section

noncomputable section

/-! A softmax over a window's logits and one sink logit, divided before or after the sum with the values. -/

namespace Cert.Proof.Attn

open Idealize.ShloMosaic

/-- The largest of a row's logits and its sink logit. -/
def top {n : ℕ} (L : Fin n → EReal) (s : EReal) : EReal := max (Finset.univ.fold max ⊥ L) s

/-- The sum of the exponentials, the sink's with them. -/
def den {n : ℕ} (L : Fin n → EReal) (s : EReal) : EReal :=
  (∑ j, Ideal.exp (L j - top L s)) + Ideal.exp (s - top L s)

theorem fold_max_lt_top {ι : Type*} (t : Finset ι) (L : ι → EReal) (hL : ∀ j, L j ≠ ⊤) : t.fold max ⊥ L < ⊤ := by
  rw [Finset.fold_max_lt]
  exact ⟨bot_lt_top, fun j _ => lt_top_iff_ne_top.2 (hL j)⟩

/-- With finite logits or `⊥`, and a finite sink, the largest is finite. -/
theorem top_real {n : ℕ} (L : Fin n → EReal) (s : ℝ) (hL : ∀ j, L j ≠ ⊤) : ∃ r : ℝ, top L s = r := by
  have h1 : top L s ≠ ⊤ := by
    rw [top, ← lt_top_iff_ne_top, max_lt_iff]
    exact ⟨fold_max_lt_top _ _ hL, EReal.coe_lt_top s⟩
  have h2 : top L s ≠ ⊥ := by
    rw [top, ← bot_lt_iff_ne_bot, lt_max_iff]
    exact Or.inr (EReal.bot_lt_coe s)
  exact ⟨(top L s).toReal, (EReal.coe_toReal h1 h2).symm⟩

/-- The exponential of a logit less a finite number is a nonnegative real. -/
theorem exp_real (l : EReal) (r : ℝ) (hl : l ≠ ⊤) : ∃ e : ℝ, 0 ≤ e ∧ Ideal.exp (l - r) = e := by
  induction l with
  | bot => exact ⟨0, le_rfl, by simp⟩
  | top => exact absurd rfl hl
  | coe l => exact ⟨Real.exp (l - r), (Real.exp_pos _).le, by rw [← EReal.coe_sub]; rfl⟩

/-- The sum of the exponentials is a positive real. -/
theorem den_real {n : ℕ} (L : Fin n → EReal) (s : ℝ) (hL : ∀ j, L j ≠ ⊤) : ∃ d : ℝ, 0 < d ∧ den L s = d := by
  obtain ⟨r, hr⟩ := top_real L s hL
  choose e he0 he using fun j => exp_real (L j) r (hL j)
  refine ⟨(∑ j, e j) + Real.exp (s - r), add_pos_of_nonneg_of_pos (Finset.sum_nonneg fun j _ => he0 j) (Real.exp_pos _), ?_⟩
  rw [den, hr, Finset.sum_congr rfl fun j _ => he j, ← EReal.coe_sub, Ideal.exp_coe, EReal.coe_add]
  congr 1
  exact (map_sum (⟨⟨Real.toEReal, rfl⟩, EReal.coe_add⟩ : ℝ →+ EReal) e Finset.univ).symm

/-- A sum of extended reals times a nonnegative real. -/
theorem sum_mul_real {ι : Type*} (t : Finset ι) (f : ι → EReal) (c : ℝ) (hc : 0 ≤ c) :
    (∑ j ∈ t, f j) * (c : EReal) = ∑ j ∈ t, f j * c := by
  classical
  induction t using Finset.induction_on with
  | empty => simp
  | insert a t ha ih =>
    rw [Finset.sum_insert ha, Finset.sum_insert ha, ← ih]
    exact EReal.right_distrib_of_nonneg_of_ne_top (EReal.coe_nonneg.2 hc) (EReal.coe_ne_top c) _ _

/-- The weighted sum divided by the exponentials' sum is the sum weighted with the quotients; a column whose logit is `⊥` has weight
0, whichever value stands there. -/
theorem softmax_sum {n : ℕ} (L : Fin n → EReal) (s : ℝ) (W W' : Fin n → EReal) (hL : ∀ j, L j ≠ ⊤)
    (hW : ∀ j, L j ≠ ⊥ → W j = W' j) :
    Ideal.div (∑ j, Ideal.exp (L j - top L s) * W j) (den L s)
      = ∑ j, W' j * Ideal.div (Ideal.exp (L j - top L s)) (den L s) := by
  obtain ⟨r, hr⟩ := top_real L s hL
  obtain ⟨d, hd, hden⟩ := den_real L s hL
  rw [hden, Ideal.div_coe hd.ne', sum_mul_real _ _ _ (by positivity)]
  refine Finset.sum_congr rfl fun j _ => ?_
  rw [Ideal.div_coe hd.ne', hr]
  by_cases h : L j = ⊥
  · rw [h]; simp
  · rw [hW j h, ← mul_assoc, mul_comm (W' j)]

/-- A row with its sink as one more column. -/
def withSink (L : Fin 384 → EReal) (s : EReal) (k : Fin 385) : EReal := if h : k.val < 384 then L ⟨k.val, h⟩ else s

theorem withSink_top (L : Fin 384 → EReal) (s : EReal) : max ⊥ (Finset.univ.fold max ⊥ (withSink L s)) = top L s := by
  rw [bot_sup_eq]
  refine le_antisymm (Finset.fold_max_le _ |>.2 ⟨bot_le, fun k _ => ?_⟩) (max_le ?_ ?_)
  · rw [withSink, top]
    split
    · exact le_max_of_le_left (Finset.le_fold_max _ |>.2 (Or.inr ⟨_, Finset.mem_univ _, le_rfl⟩))
    · exact le_max_right _ _
  · refine Finset.fold_max_le _ |>.2 ⟨bot_le, fun k _ => Finset.le_fold_max _ |>.2 (Or.inr ⟨⟨k.val, by omega⟩, Finset.mem_univ _, ?_⟩)⟩
    rw [withSink, dif_pos k.isLt]
  · refine Finset.le_fold_max _ |>.2 (Or.inr ⟨⟨384, by omega⟩, Finset.mem_univ _, ?_⟩)
    rw [withSink, dif_neg (by simp)]

theorem withSink_den (L : Fin 384 → EReal) (s : EReal) : ∑ k, Ideal.exp (withSink L s k - top L s) = den L s := by
  rw [Fin.sum_univ_castSucc, den]
  congr 1

end Cert.Proof.Attn
-- ==== Proof.AttnIdeal.Head.lean ====
module

public import proofs.«01_k».proof.Proof.AttnIdeal.Frame
public import proofs.«01_k».proof.Proof.AttnIdeal.Softmax
public import Idealize.ShloMosaic.Lib.Pipeline.ValueKit
public import Idealize.ShloMosaic.Lib.Pipeline.ReadBack
public import Idealize.ShloMosaic.Lib.Pointwise

@[expose] public section

set_option maxRecDepth 16384

noncomputable section

/-! What one head of the attention's body computes, at an index. -/

namespace Cert.Proof.Attn

open Cert.AttnIdeal Cert.AttnIdeal.Gen Cert.AttnIdeal.Body
open Idealize.ShloMosaic Idealize.ShloMosaic.TcCoe Idealize.SL.Sem

theorem mask_bot : (Named.named κ "mask" 0xF149F2CA#32 : Ideal .f32) = (⊥ : EReal) := rfl

theorem bot_word' : Ideal.ofBits FTy.f32 4286578688#32 = ⊥ := by
  simp [Ideal.ofBits, Ideal.ieee]

/-- Three blocks of rows, one after the other. -/
def cat3 (k0 k1 k2 : S128x64.Idx → EReal) (j : Fin 384) (d : Fin 64) : EReal :=
  if h : j.val < 128 then k0 (ix2 ⟨j.val, h⟩ d) else if h : j.val - 128 < 128 then k1 (ix2 ⟨j.val - 128, h⟩ d)
    else k2 (ix2 ⟨j.val - 128 - 128, by omega⟩ d)

/-- A head's logit of column `j` for row `r`. -/
def logit (ok : S128x384.Idx → BitVec 1) (k0 k1 k2 q : S128x64.Idx → EReal) (b : S1x128x384.Idx → EReal) (r : Fin 128)
    (j : Fin 384) : EReal :=
  Scalar.select (ok (ix2 r j)) ((∑ d : Fin 64, q (ix2 r d) * cat3 k0 k1 k2 j d) + b (ix3 0 r j)) ⊥

/-- A head's output. -/
theorem head_apply (ok : IVec S128x384 1) (k0 k1 k2 v0 v1 v2 q : FVec Ideal S128x64 .bf16) (b : FVec Ideal S1x128x384 .f32)
    (s : Elt Ideal .f32) (r : Fin 128) (d : Fin 64) :
    k0_pay9 ok (k0_pay7 k0 k1 k2) (k0_pay8 v0 v1 v2) q b s (ix2 r d)
      = Ideal.div (∑ j : Fin 384, Ideal.exp (logit ok k0 k1 k2 q b r j - top (logit ok k0 k1 k2 q b r) s) * cat3 v0 v1 v2 j d)
          (den (logit ok k0 k1 k2 q b r) s) := by
  pointwise [k0_pay9, k0_pay7, k0_pay8]
  rw [mask_bot, bot_word']
  rfl

theorem product_apply (x10 : FVec Ideal S128x1024 .f32) (A : FVec Ideal S128x1024 .bf16) (W : FVec Ideal S1024x1024 .bf16)
    (r : Fin 128) (e : Fin 1024) :
    k0_pay2 x10 A W (ix2 r e) = x10 (ix2 r e) + ∑ k : Fin 1024, A (ix2 r k) * W (ix2 k e) := by
  pointwise [k0_pay2]

/-- A head's columns of the queries. -/
def colsQ (X : FVec Ideal S128x1024 .bf16) (h : Fin 16) : FVec Ideal S128x64 .bf16 :=
  View.ld (Val := Elt Ideal) (e' := .bf16) X (Rect.unit (s := S128x1024) ![0, 64 * h.val] ![128, 64] (fun a => by
    match a with
    | ⟨0, _⟩ => exact Nat.le_refl 128
    | ⟨1, _⟩ => show 64 * h.val + 64 ≤ 1024; omega))

theorem colsQ_apply (X : FVec Ideal S128x1024 .bf16) (h : Fin 16) (r : Fin 128) (d : Fin 64) :
    colsQ X h (ix2 r d) = X (ix2 r ⟨64 * h.val + d.val, by omega⟩) := by
  refine congrArg X ?_
  funext a
  apply Fin.ext
  match a with
  | ⟨0, _⟩ => show 0 + 1 * r.val = r.val; omega
  | ⟨1, _⟩ => show 64 * h.val + 1 * d.val = 64 * h.val + d.val; omega

/-- The columns of the keys or values that a head shares with three others. -/
def colsK (X : FVec Ideal S128x256 .bf16) (h : Fin 16) : FVec Ideal S128x64 .bf16 :=
  View.ld (Val := Elt Ideal) (e' := .bf16) X (Rect.unit (s := S128x256) ![0, 64 * (h.val / 4)] ![128, 64] (fun a => by
    match a with
    | ⟨0, _⟩ => exact Nat.le_refl 128
    | ⟨1, _⟩ => show 64 * (h.val / 4) + 64 ≤ 256; omega))

theorem colsK_apply (X : FVec Ideal S128x256 .bf16) (h : Fin 16) (r : Fin 128) (d : Fin 64) :
    colsK X h (ix2 r d) = X (ix2 r ⟨64 * (h.val / 4) + d.val, by omega⟩) := by
  refine congrArg X ?_
  funext a
  apply Fin.ext
  match a with
  | ⟨0, _⟩ => show 0 + 1 * r.val = r.val; omega
  | ⟨1, _⟩ => show 64 * (h.val / 4) + 1 * d.val = 64 * (h.val / 4) + d.val; omega

/-- What head `h` stores. -/
def headPay (ok : IVec S128x384 1) (Q : FVec Ideal S128x1024 .bf16) (K0 K1 K2 V0 V1 V2 : FVec Ideal S128x256 .bf16)
    (b : Fin 16 → FVec Ideal S1x128x384 .f32) (s : Fin 16 → Elt Ideal .f32) (h : Fin 16) : FVec Ideal S128x64 .bf16 :=
  k0_pay9 ok (k0_pay7 (colsK K0 h) (colsK K1 h) (colsK K2 h)) (k0_pay8 (colsK V0 h) (colsK V1 h) (colsK V2 h)) (colsQ Q h) (b h) (s h)

/-- Head `h`'s store. -/
def headPiece (ok : IVec S128x384 1) (Q : FVec Ideal S128x1024 .bf16) (K0 K1 K2 V0 V1 V2 : FVec Ideal S128x256 .bf16)
    (b : Fin 16 → FVec Ideal S1x128x384 .f32) (s : Fin 16 → Elt Ideal .f32) (h : Fin 16) : View.Piece (Elt Ideal) S128x1024 .bf16 :=
  ⟨Rect.unit (s := S128x1024) ![0, 64 * h.val] ![128, 64] (fun a => by
    match a with
    | ⟨0, _⟩ => exact Nat.le_refl 128
    | ⟨1, _⟩ => show 64 * h.val + 64 ≤ 1024; omega), headPay ok Q K0 K1 K2 V0 V1 V2 b s h⟩

/-- The heads' stores, last first. -/
def headPieces (ok : IVec S128x384 1) (Q : FVec Ideal S128x1024 .bf16) (K0 K1 K2 V0 V1 V2 : FVec Ideal S128x256 .bf16)
    (b : Fin 16 → FVec Ideal S1x128x384 .f32) (s : Fin 16 → Elt Ideal .f32) : List (View.Piece (Elt Ideal) S128x1024 .bf16) :=
  let piece := headPiece ok Q K0 K1 K2 V0 V1 V2 b s
  [piece 15, piece 14, piece 13, piece 12, piece 11, piece 10, piece 9, piece 8, piece 7, piece 6, piece 5, piece 4, piece 3, piece 2, piece 1, piece 0]

theorem headPieces_eq (ok : IVec S128x384 1) (Q : FVec Ideal S128x1024 .bf16) (K0 K1 K2 V0 V1 V2 : FVec Ideal S128x256 .bf16)
    (b : Fin 16 → FVec Ideal S1x128x384 .f32) (s : Fin 16 → Elt Ideal .f32) :
    headPieces ok Q K0 K1 K2 V0 V1 V2 b s
      = List.ofFn fun n : Fin 16 => headPiece ok Q K0 K1 K2 V0 V1 V2 b s ⟨15 - n.val, by omega⟩ := rfl

/-- Read back at head `h`'s columns, the stores give head `h`'s output. -/
theorem headPieces_apply (ok : IVec S128x384 1) (Q : FVec Ideal S128x1024 .bf16) (K0 K1 K2 V0 V1 V2 : FVec Ideal S128x256 .bf16)
    (b : Fin 16 → FVec Ideal S1x128x384 .f32) (s : Fin 16 → Elt Ideal .f32) (r : Fin 128) (h : Fin 16) (d : Fin 64) (k : Fin 1024)
    (hk : k.val = 64 * h.val + d.val) :
    View.canon (headPieces ok Q K0 K1 K2 V0 V1 V2 b s) (ix2 r k) = headPay ok Q K0 K1 K2 V0 V1 V2 b s h (ix2 r d) := by
  rw [headPieces_eq]
  unfold headPiece
  refine View.canon_ofFn_unit_eq_of_forall (S := S128x1024) (fun n : Fin 16 => ![0, 64 * (15 - n.val)]) ![128, 64] _ _ _ _
    ⟨⟨15 - h.val, by omega⟩, fun a => ?_⟩ fun n x hx => ?_
  · match a with
    | ⟨0, _⟩ => show 0 ≤ r.val ∧ r.val < 0 + 128; omega
    | ⟨1, _⟩ => show 64 * (15 - (15 - h.val)) ≤ k.val ∧ k.val < 64 * (15 - (15 - h.val)) + 64; omega
  · have h0 : r.val = 0 + (x 0).val := hx 0
    have h1 : k.val = 64 * (15 - n.val) + (x 1).val := hx 1
    have hl : (x 1).val < 64 := (x 1).isLt
    have hn : (⟨15 - n.val, by omega⟩ : Fin 16) = h := Fin.ext (by show 15 - n.val = h.val; omega)
    rw [hn]
    refine congrArg _ ?_
    funext a
    apply Fin.ext
    match a with
    | ⟨0, _⟩ => show (x 0).val = r.val; omega
    | ⟨1, _⟩ => show (x 1).val = d.val; omega

variable (m : (ℓ : Loc nD τ sig) → Buf (Elt Ideal) ℓ)

/-- The plane of the table that head `h` reads. -/
def planeOf (T : S16x128x384.Idx → Elt Ideal .f32) (h : Fin 16) : FVec Ideal S1x128x384 .f32 :=
  View.ld (Val := Elt Ideal) (e' := .f32) T (Rect.unit (s := S16x128x384) ![h.val, 0, 0] ![1, 128, 384] (fun a => by
    match a with
    | ⟨0, _⟩ => show h.val + 1 ≤ 16; omega
    | ⟨1, _⟩ => exact Nat.le_refl 128
    | ⟨2, _⟩ => exact Nat.le_refl 384))

theorem planeOf_apply (T : S16x128x384.Idx → Elt Ideal .f32) (h : Fin 16) (r : Fin 128) (j : Fin 384) :
    planeOf T h (ix3 0 r j) = T (ix3 h r j) := by
  refine congrArg T ?_
  funext a
  apply Fin.ext
  match a with
  | ⟨0, _⟩ => show h.val + 1 * 0 = h.val; omega
  | ⟨1, _⟩ => show 0 + 1 * r.val = r.val; omega
  | ⟨2, _⟩ => show 0 + 1 * j.val = j.val; omega

/-- A head's sink logit. -/
def sinkOf (X : FVec Ideal S16 .f32) (h : Fin 16) : Elt Ideal .f32 := X (ix1 h)

/-- A point's block, from the table of biases `T`. -/
def blockOf (c : Dev nD) (t : Fin cfg0.N) (T : S16x128x384.Idx → Elt Ideal .f32) : FVec Ideal S128x1024 .f32 :=
  k0_pay2 (iblk m c 10 t)
    (fun y => View.canon (headPieces (k0_pay6 (grid0.coords t)) (iblk m c 0 t) (iblk m c 1 t) (iblk m c 2 t) (iblk m c 3 t)
      (iblk m c 4 t) (iblk m c 5 t) (iblk m c 6 t) (planeOf T) (sinkOf (iblk m c 9 t))) y) (iblk m c 11 t)

theorem whole_idx (hin) (y : S128x1024.Idx) : (Rect.unit (s := S128x1024) ![0, 0] ![128, 1024] hin).toLoadRect.idx y = y := by
  funext a
  apply Fin.ext
  match a with
  | ⟨0, _⟩ => show 0 + 1 * (y 0).val = (y 0).val; omega
  | ⟨1, _⟩ => show 0 + 1 * (y 1).val = (y 1).val; omega

theorem sink_idx (X : FVec Ideal S16 .f32) (h : Fin 16) (hin) (h1) :
    View.ld (Val := Elt Ideal) (e' := .f32) X (Rect.unit (s := S16) ![h.val] ![1] hin) (Shape.Idx.first h1) = sinkOf X h := by
  refine congrArg X ?_
  funext a
  apply Fin.ext
  match a with
  | ⟨0, _⟩ => rfl

end Cert.Proof.Attn
-- ==== Proof.AttnIdeal.Reference.lean ====
module

public import proofs.«01_k».proof.Proof.Gen.AttnRefIdeal.Read
public import proofs.«01_k».proof.Proof.AttnIdeal.Softmax
public import Idealize.ShloMosaic.Lib.Pipeline.ValueKit
public import Idealize.ShloMosaic.Lib.Pointwise

@[expose] public section

set_option maxRecDepth 16384

noncomputable section

/-! The reference's attention at an index, before its last product. -/

namespace Cert.Proof.Attn

open Cert.AttnRefIdeal Cert.AttnRefIdeal.Read
open Idealize.ShloMosaic Idealize.ShloMosaic.TcCoe Idealize.SL.Sem

/-- A matrix's element by its row and column as numbers. -/
def at2 {m n : ℕ} (A : (⟨2, ![m, n]⟩ : Shape).Idx → EReal) (r c : ℕ) : EReal :=
  if h : r < m ∧ c < n then A (ix2 ⟨r, h.1⟩ ⟨c, h.2⟩) else 0

theorem at2_eq {m n : ℕ} (A : (⟨2, ![m, n]⟩ : Shape).Idx → EReal) (r : Fin m) (c : Fin n) (r' c' : ℕ) (hr : r.val = r')
    (hc : c.val = c') : A (ix2 r c) = at2 A r' c' := by
  subst hr hc
  rw [at2, dif_pos ⟨r.isLt, c.isLt⟩]

theorem bot_word : Ideal.ofBits FTy.f32 4286578688#32 = ⊥ := by
  simp [Ideal.ofBits, Ideal.ieee]

/-- Column `j` of the keys around block `n`, where it is one of the sequence's. -/
theorem key_apply (x1 : S16384x256.Idx → EReal) (b : Fin 2) (n : Fin 64) (j : Fin 384) (h : Fin 4) (d : Fin 64)
    (hv : 128 ≤ n.val * 128 + j.val ∧ n.val * 128 + j.val - 128 < 8192) :
    val_main_v13 (F := Ideal) x1 (ix5 b n j h d)
      = at2 (m := 16384) (n := 256) x1 (b.val * 8192 + (n.val * 128 + j.val - 128)) (h.val * 64 + d.val) := by
  pointwise [val_main_v13, val_main_v12, val_main_v11, val_main_v10, val_main_v9, val_main_v8, val_main_call0_v0, val_main_c,
    val_main_v5, val_main_v4]
  obtain ⟨h1, h2⟩ := hv
  by_cases c1 : j.val < 128
  · rw [dif_pos c1, dif_pos ⟨h1, h2⟩]
    exact at2_eq (m := 16384) (n := 256) x1 _ _ _ _ rfl rfl
  · rw [dif_neg c1]
    by_cases c2 : j.val - 128 < 128
    · rw [dif_pos c2, dif_pos (by omega)]
      exact at2_eq (m := 16384) (n := 256) x1 _ _ _ _ (by dsimp only; omega) rfl
    · rw [dif_neg c2, dif_pos (by omega)]
      exact at2_eq (m := 16384) (n := 256) x1 _ _ _ _ (by dsimp only; omega) rfl

/-- Column `j` of the values around block `n`, where it is one of the sequence's. -/
theorem value_apply (x1 : S16384x256.Idx → EReal) (b : Fin 2) (n : Fin 64) (j : Fin 384) (h : Fin 4) (d : Fin 64)
    (hv : 128 ≤ n.val * 128 + j.val ∧ n.val * 128 + j.val - 128 < 8192) :
    val_main_v19 (F := Ideal) x1 (ix5 b n j h d)
      = at2 (m := 16384) (n := 256) x1 (b.val * 8192 + (n.val * 128 + j.val - 128)) (h.val * 64 + d.val) :=
  key_apply x1 b n j h d hv

/-- A query's logit for column `j`: `⊥` outside the window and outside the sequence. -/
theorem logit_apply (x0 : S16384x1024.Idx → EReal) (x1 : S16384x256.Idx → EReal) (x3 : S32x16.Idx → EReal)
    (b : Fin 2) (n : Fin 64) (h g : Fin 4) (i : Fin 128) (j : Fin 384) :
    val_main_v92 (F := Ideal) x0 x1 x3 (ix6 b n h g i j)
      = Scalar.select (IntOp.andi (val_main_v77 (F := Ideal) (ix2 i j)) (val_main_v83 (F := Ideal) (ix2 n j)))
          ((∑ d : Fin 64, val_main_v13 (F := Ideal) x1 (ix5 b n j h d)
              * at2 (m := 16384) (n := 1024) x0 (b.val * 8192 + n.val * 128 + i.val) (h.val * 256 + g.val * 64 + d.val))
            + val_main_v61 (F := Ideal) x3 (ix3 i j ⟨h.val * 4 + g.val, by omega⟩)) ⊥ := by
  pointwise [val_main_v92, val_main_call4_v1, val_main_call4_v2, val_main_call4_v0, val_main_cst_18, val_main_v91, val_main_v90,
    val_main_v89, val_main_v88, val_main_v87, val_main_v86, val_main_v85, val_main_v84, val_main_v78, val_main_v63, val_main_v62,
    val_main_v21, val_main_v20, val_main_v3, val_main_v2]
  refine congrArg₂ (Scalar.select _) (congrArg (· + _) (Finset.sum_congr rfl fun d _ => congrArg (_ * ·) ?_)) bot_word
  exact at2_eq (m := 16384) (n := 1024) x0 _ _ _ _ rfl rfl

section row
variable (x0 : S16384x1024.Idx → EReal) (x1 : S16384x256.Idx → EReal) (x3 : S32x16.Idx → EReal) (x4 : S1x16.Idx → EReal)
  (b : Fin 2) (n : Fin 64) (h g : Fin 4) (i : Fin 128)

/-- A query's logits. -/
def refRow (j : Fin 384) : EReal := val_main_v92 (F := Ideal) x0 x1 x3 (ix6 b n h g i j)

/-- A query's sink logit. -/
def refSink : EReal := at2 (m := 1) (n := 16) x4 0 (h.val * 4 + g.val)

theorem with_sink_apply (k : Fin 385) :
    val_main_v95 (F := Ideal) x0 x1 x3 x4 (ix6 b n h g i k) = withSink (refRow x0 x1 x3 b n h g i) (refSink x4 h g) k := by
  rw [withSink]
  pointwise [val_main_v95, val_main_v94, val_main_v93, val_main_v0]
  refine dite_congr rfl (fun _ => rfl) fun _ => ?_
  exact at2_eq (m := 1) (n := 16) x4 _ _ _ _ rfl rfl

theorem row_fiber (i' : S2x64x4x4x128x385.Idx) :
    Gen.reducesTo_S2x64x4x4x128x385_S2x64x4x4x128_d5.drop i' = ix5 b n h g i ↔ ∃ k : Fin 385, ix6 b n h g i k = i' := by
  constructor
  · intro e
    refine ⟨i' 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

theorem row_max_apply :
    val_main_v96 (F := Ideal) x0 x1 x3 x4 (ix5 b n h g i)
      = Finset.univ.fold max ⊥ (withSink (refRow x0 x1 x3 b n h g i) (refSink x4 h g)) := by
  unfold val_main_v96
  have hx : ∀ k, val_main_v95 (F := Ideal) x0 x1 x3 x4 (ix6 b n h g i k) = withSink (refRow x0 x1 x3 b n h g i) (refSink x4 h g) k :=
    with_sink_apply x0 x1 x3 x4 b n h g i
  generalize val_main_v95 (F := Ideal) x0 x1 x3 x4 = y at hx ⊢
  rw [Host.reduce_eq_fold]
  refine (Finset.fold_filter_eq_fold_of_fiber max _ (fun k : Fin 385 => ix6 b n h g i k) (fun _ _ e => congrFun e 5)
    (row_fiber b n h g i) _ y).trans ?_
  rw [funext hx]
  exact congrArg (fun z => Finset.univ.fold max z _) bot_word

theorem top_apply :
    val_main_v98 (F := Ideal) x0 x1 x3 x4 (ix5 b n h g i) = top (refRow x0 x1 x3 b n h g i) (refSink x4 h g) := by
  rw [← withSink_top, ← row_max_apply, val_main_v98_apply]
  generalize val_main_v96 (F := Ideal) x0 x1 x3 x4 (ix5 b n h g i) = y
  exact congrArg (fun z => max z y) bot_word

theorem exp_apply (k : Fin 385) :
    val_main_v102 (F := Ideal) x0 x1 x3 x4 (ix6 b n h g i k)
      = Ideal.exp (withSink (refRow x0 x1 x3 b n h g i) (refSink x4 h g) k - top (refRow x0 x1 x3 b n h g i) (refSink x4 h g)) := by
  rw [← with_sink_apply, ← top_apply]
  pointwise [val_main_v102, val_main_v101, val_main_v100, val_main_v99]

theorem den_apply :
    val_main_v103 (F := Ideal) x0 x1 x3 x4 (ix5 b n h g i) = den (refRow x0 x1 x3 b n h g i) (refSink x4 h g) := by
  rw [val_main_v103_apply, ← withSink_den]
  refine (congrArg₂ (· + ·) (?_ : _ = (0 : EReal)) (Finset.sum_congr rfl fun k _ => ?_)).trans (zero_add _)
  · exact Ideal.ofBits_zero_f32
  · refine Eq.trans (congrArg _ (?_ : _ = ix6 b n h g i k)) (exp_apply x0 x1 x3 x4 b n h g i k)
    funext a
    match a with
    | ⟨0, _⟩ => rfl
    | ⟨1, _⟩ => rfl
    | ⟨2, _⟩ => rfl
    | ⟨3, _⟩ => rfl
    | ⟨4, _⟩ => rfl
    | ⟨5, _⟩ => rfl

theorem weight_apply (j : Fin 384) :
    val_main_v107 (F := Ideal) x0 x1 x3 x4 (ix6 b n h g i j)
      = Ideal.div (Ideal.exp (refRow x0 x1 x3 b n h g i j - top (refRow x0 x1 x3 b n h g i) (refSink x4 h g)))
          (den (refRow x0 x1 x3 b n h g i) (refSink x4 h g)) := by
  have e : val_main_v107 (F := Ideal) x0 x1 x3 x4 (ix6 b n h g i j)
      = Ideal.div (val_main_v102 (F := Ideal) x0 x1 x3 x4 (ix6 b n h g i ⟨j.val, by omega⟩))
          (val_main_v103 (F := Ideal) x0 x1 x3 x4 (ix5 b n h g i)) := by
    pointwise [val_main_v107, val_main_v106, val_main_v105, val_main_v104]
  rw [e, exp_apply, den_apply, withSink, dif_pos j.isLt]

end row

/-- The attention's output before its last product. -/
theorem out_apply (x0 : S16384x1024.Idx → EReal) (x1 x2 : S16384x256.Idx → EReal) (x3 : S32x16.Idx → EReal) (x4 : S1x16.Idx → EReal)
    (r : Fin 16384) (e : Fin 1024) (b : Fin 2) (n : Fin 64) (h g : Fin 4) (i : Fin 128) (d : Fin 64)
    (hr : r.val = b.val * 8192 + n.val * 128 + i.val) (he : e.val = h.val * 256 + g.val * 64 + d.val) :
    val_main_v110 (F := Ideal) x0 x1 x2 x3 x4 (ix2 r e)
      = ∑ j : Fin 384, val_main_v19 (F := Ideal) x2 (ix5 b n j h d)
          * Ideal.div (Ideal.exp (refRow x0 x1 x3 b n h g i j - top (refRow x0 x1 x3 b n h g i) (refSink x4 h g)))
              (den (refRow x0 x1 x3 b n h g i) (refSink x4 h g)) := by
  have e1 : val_main_v110 (F := Ideal) x0 x1 x2 x3 x4 (ix2 r e) = val_main_v108 (F := Ideal) x0 x1 x2 x3 x4 (ix6 b n h d g i) := by
    pointwise [val_main_v110, val_main_v109]
    have hi : ∀ (a : Fin 2) (b' : Fin 64) (c : Fin 4) (d' : Fin 64) (e' : Fin 4) (f : Fin 128), a = b → b' = n → c = h → d' = d →
        e' = g → f = i → ix6 a b' c d' e' f = ix6 b n h d g i := by
      rintro _ _ _ _ _ _ rfl rfl rfl rfl rfl rfl
      rfl
    refine congrArg (val_main_v108 (F := Ideal) x0 x1 x2 x3 x4) (hi _ _ _ _ _ _ ?_ ?_ ?_ ?_ ?_ ?_) <;> apply Fin.ext <;>
      dsimp only <;> omega
  rw [e1, val_main_v108_apply]
  refine Finset.sum_congr rfl fun j _ => ?_
  rw [← weight_apply]
  refine congrArg₂ (· * ·) (congrArg _ ?_) (congrArg _ ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl
    | ⟨5, _⟩ => rfl

end Cert.Proof.Attn
-- ==== Proof.AttnIdeal.Table.lean ====
module

public import proofs.«01_k».proof.Proof.AttnIdeal.Frame
public import proofs.«01_k».proof.Proof.AttnIdeal.Reference
public import Idealize.ShloMosaic.Lib.Pipeline.ValueKit
public import Idealize.ShloMosaic.Lib.Pipeline.ReadBack
public import Idealize.ShloMosaic.Lib.Pointwise
public import Idealize.ShloMosaic.Lib.WholeRead
public import Idealize.ShloMosaic.Lib.WordArith.Masks
public import Idealize.ShloMosaic.Lib.StableHlo.Predicate

@[expose] public section

set_option maxRecDepth 16384

noncomputable section

/-! The table of biases that the kernel makes at the first point of its grid: for head `h`, row `r` and column `j` the
    relative bias of the pair's bucket, or the mask outside the window. -/

namespace Cert.Proof.Attn

open Cert.AttnIdeal Cert.AttnIdeal.Gen Cert.AttnIdeal.Body
open Idealize.ShloMosaic Idealize.ShloMosaic.TcCoe Idealize.SL.Sem

theorem heads_lt (k : Fin k0_t1_loop.trips) : k.val < 16 := k.isLt

theorem buckets_lt (k : Fin k0_t2_loop.trips) : k.val < 32 := k.isLt

theorem head_word (k : Fin k0_t1_loop.trips) : (Scf.iv 0#32 1#32 k.val).toNat = k.val :=
  WordArith.toNat_iv_zero_one _ (by have := heads_lt k; omega)

theorem bucket_word (k : Fin k0_t2_loop.trips) : (Scf.iv 0#32 1#32 k.val).toNat = k.val :=
  WordArith.toNat_iv_zero_one _ (by have := buckets_lt k; omega)

theorem entry_idx (h : Fin k0_t1_loop.trips) (k : Fin k0_t2_loop.trips) (hin) (h1) :
    (Rect.unit (s := S32x16) (k0_off1 h k) S1x1.size hin).idx (Shape.Idx.first (s := S1x1) h1) = ix2 ⟨k.val, buckets_lt k⟩ ⟨h.val, heads_lt h⟩ := by
  have hh := head_word h
  have hk := bucket_word k
  funext a
  apply Fin.ext
  match a with
  | ⟨0, _⟩ => show (Scf.iv 0#32 1#32 k.val).toNat + 1 * 0 = k.val; omega
  | ⟨1, _⟩ => show (Scf.iv 0#32 1#32 h.val).toNat + 1 * 0 = h.val; omega

/-- Whether column `j` is within 128 of row `r`, which is column `r + 128`. -/
def near (r : Fin 128) (j : Fin 384) : BitVec 1 :=
  IntOp.cmpi .sle (IntOp.absi (BitVec.ofNat 32 j.val - 128#32 - BitVec.ofNat 32 r.val)) 128#32

theorem plane_apply (v : FVec Ideal S128x384 .f32) (r : Fin 128) (j : Fin 384) (z : Fin 1) :
    k0_pay5 v (ix3 z r j) = Scalar.select (near r j) (v (ix2 r j)) (⊥ : EReal) := by
  pointwise [k0_pay5]
  rfl

theorem step_apply (v : Vec Ideal S128x384 .i32) (k : Fin k0_t2_loop.trips) (acc : FVec Ideal S128x384 .f32) (x : Elt Ideal .f32) (r : Fin 128) (j : Fin 384) :
    k0_pay4 v k acc x (ix2 r j) = Scalar.select (IntOp.cmpi .eq (v (ix2 r j)) (Scf.iv 0#32 1#32 k.val)) x (acc (ix2 r j)) := by
  pointwise [k0_pay4]

variable (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x384 .i32) (harg8 : arg8.IsWhole) (arg9 : Memref sig .tc .smem S32x16 .f32) (harg9 : arg9.IsWhole) (arg10 : Memref sig .tc .smem S16 .f32) (harg10 : arg10.IsWhole) (arg11 : Memref sig .tc .vmem S128x1024 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x128x384 .f32) (harg14 : arg14.IsWhole) (arg15 : Memref sig .tc .vmem S128x1024 .bf16) (harg15 : arg15.IsWhole) (hc : k0_cond1 i = 1#1) (v : Vec Ideal S128x384 .i32) (X : Vec Ideal S32x16 .f32)

/-- What the loop over the buckets holds before its trip `n`. -/
theorem buckets_apply (h : Fin k0_t1_loop.trips) (r : Fin 128) (j : Fin 384) (n : ℕ) (hn : n ≤ 32) :
    st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc v h (harg9.unread X) k0_pay3 n (ix2 r j)
      = if (v (ix2 r j)).toNat < n then at2 (m := 32) (n := 16) X (v (ix2 r j)).toNat h.val else (0 : EReal) := by
  induction n with
  | zero =>
    rw [st_k0_t2_zero, if_neg (Nat.not_lt_zero _)]
    pointwise [k0_pay3]
  | succ n ih =>
    have hk : n < k0_t2_loop.trips := hn
    rw [show n + 1 = (⟨n, hk⟩ : Fin k0_t2_loop.trips).val + 1 from rfl, st_k0_t2_succ]
    unfold tripR_k0_t2 trip_k0_t2
    dsimp only
    unfold trip_k0_t2.sl.r
    rw [step_apply, harg9.readAt_unread, ih (by omega)]
    refine (congrArg (fun x => Scalar.select _ x _) ((congrArg X (entry_idx h ⟨n, hk⟩ _ _)).trans
      (at2_eq (m := 32) (n := 16) X ⟨n, hn⟩ ⟨h.val, heads_lt h⟩ n h.val rfl rfl))).trans ?_
    by_cases he : (v (ix2 r j)).toNat = n
    · have hw : IntOp.cmpi .eq (v (ix2 r j)) (Scf.iv 0#32 1#32 n) = 1#1 :=
        (StableHlo.Predicate.cmpi_eq_iff).mpr (BitVec.eq_of_toNat_eq (he.trans (bucket_word ⟨n, hk⟩).symm))
      rw [he]
      exact (if_pos hw).trans (if_pos (Nat.lt_succ_self n)).symm
    · have hw : ¬ IntOp.cmpi .eq (v (ix2 r j)) (Scf.iv 0#32 1#32 n) = 1#1 := fun hw =>
        he ((congrArg BitVec.toNat ((StableHlo.Predicate.cmpi_eq_iff).mp hw)).trans (bucket_word ⟨n, hk⟩))
      refine (if_neg hw).trans ?_
      by_cases hl : (v (ix2 r j)).toNat < n
      · rw [if_pos hl, if_pos (by omega)]
      · rw [if_neg hl, if_neg (by omega)]

/-- The table of biases from the buckets `v` and the relative biases `X`. -/
def biasTable (v : Vec Ideal S128x384 .i32) (X : Vec Ideal S32x16 .f32) (y : S16x128x384.Idx) : Elt Ideal .f32 :=
  Scalar.select (near (y 1) (y 2)) (at2 (m := 32) (n := 16) X (v (ix2 (y 1) (y 2))).toNat (y 0).val) (⊥ : EReal)

theorem plane_table (hv : ∀ r j, (v (ix2 r j)).toNat < 32) (h : Fin k0_t1_loop.trips) (r : Fin 128) (j : Fin 384) (z : Fin 1) :
    k0_pay5 (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc v h (harg9.unread X) k0_pay3 (Scf.trips 0#32 (Scalar.addi 0#32 32#32) 1#32))
        (ix3 z r j)
      = biasTable v X (ix3 h r j) := by
  rw [plane_apply]
  refine congrArg (fun x => Scalar.select (near r j) x (⊥ : EReal)) ?_
  refine (buckets_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 hc v X h r j 32 (Nat.le_refl 32)).trans ?_
  exact if_pos (hv r j)

/-- Every plane stored holds the table's values. -/
theorem planes_agree (hv : ∀ r j, (v (ix2 r j)).toNat < 32) (n : ℕ) (hn : n ≤ 16) :
    ∀ p ∈ planes (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc v (harg9.unread X) n, ∀ x, p.2 x = biasTable v X (p.1.emb x) := by
  induction n with
  | zero => intro p hp; cases hp
  | succ n ih =>
    have hk : n < k0_t1_loop.trips := hn
    rw [show n + 1 = (⟨n, hk⟩ : Fin k0_t1_loop.trips).val + 1 from rfl, planes_succ]
    unfold planeL plane
    dsimp only
    intro p hp
    rcases List.mem_append.mp hp with hp | hp
    · obtain rfl := List.mem_singleton.mp hp
      intro x
      idx_vars x
      refine (plane_table c i arg1 harg1 arg2 harg2 arg3 harg3 arg4 harg4 arg5 harg5 arg6 harg6 arg7 harg7 arg8 harg8 arg9 harg9 arg10 harg10 arg11 harg11 arg12 harg12 arg13 harg13 arg14 harg14 arg15 harg15 hc v X hv ⟨n, hk⟩ _ _ _).trans (congrArg (biasTable v X) ?_)
      have hw := head_word ⟨n, hk⟩
      dsimp only at hw
      funext a
      apply Fin.ext
      match a with
      | ⟨0, _⟩ => show n = (Scf.iv 0#32 1#32 n).toNat + 1 * (x0 : Fin 1).val; omega
      | ⟨1, _⟩ => show (x1 : Fin 128).val = 0 + 1 * x1.val; omega
      | ⟨2, _⟩ => show (x2 : Fin 384).val = 0 + 1 * x2.val; omega
    · exact ih (by omega) p hp

theorem planes_cover (y : S16x128x384.Idx) (n : ℕ) (hn : n ≤ 16) (hy : (y 0).val < n) :
    ∃ p ∈ planes (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc v (harg9.unread X) n, y ∈ p.1.set := by
  induction n with
  | zero => omega
  | succ n ih =>
    have hk : n < k0_t1_loop.trips := hn
    rw [show n + 1 = (⟨n, hk⟩ : Fin k0_t1_loop.trips).val + 1 from rfl, planes_succ]
    unfold planeL plane
    dsimp only
    by_cases h : (y 0).val < n
    · obtain ⟨p, hp, hs⟩ := ih (by omega) h
      exact ⟨p, List.mem_append_right _ hp, hs⟩
    · refine ⟨_, List.mem_append_left _ (List.mem_singleton.mpr rfl), ?_⟩
      rw [Rect.mem_set_unit]
      intro a
      have hw := head_word ⟨n, hk⟩
      match a with
      | ⟨0, _⟩ => show (Scf.iv 0#32 1#32 n).toNat ≤ (y 0).val ∧ (y 0).val < (Scf.iv 0#32 1#32 n).toNat + 1; dsimp only at hw; omega
      | ⟨1, _⟩ => show 0 ≤ (y 1).val ∧ (y 1).val < 0 + 128; exact ⟨Nat.zero_le _, (Nat.zero_add 128).symm ▸ (y 1).isLt⟩
      | ⟨2, _⟩ => show 0 ≤ (y 2).val ∧ (y 2).val < 0 + 384; exact ⟨Nat.zero_le _, (Nat.zero_add 384).symm ▸ (y 2).isLt⟩

/-- Read back, the planes are the table. -/
theorem planes_apply (hv : ∀ r j, (v (ix2 r j)).toNat < 32) (y : S16x128x384.Idx) :
    View.canon (planes (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc v (harg9.unread X) (Scf.trips 0#32 (Scalar.addi 0#32 16#32) 1#32)) y
      = biasTable v X y :=
  View.canon_apply_of_pieces (biasTable v X) _ (planes_agree c i arg1 harg1 arg2 harg2 arg3 harg3 arg4 harg4 arg5 harg5 arg6 harg6 arg7 harg7 arg8 harg8 arg9 harg9 arg10 harg10 arg11 harg11 arg12 harg12 arg13 harg13 arg14 harg14 arg15 harg15 hc v X hv 16 (Nat.le_refl 16)) y
    (planes_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 hc v X y 16 (Nat.le_refl 16) (y 0).isLt)

end Cert.Proof.Attn

end
-- ==== Proof.AttnIdeal.Blocks.lean ====
module

public import proofs.«01_k».proof.Proof.AttnIdeal.Head
public import proofs.«01_k».proof.Proof.AttnIdeal.Table

@[expose] public section

set_option maxRecDepth 16384

noncomputable section

/-! What a point of the grid stores: the heads' outputs, multiplied by the output weights, over the table of biases made at
    the first point. -/

namespace Cert.Proof.Attn

open Cert.AttnIdeal Cert.AttnIdeal.Gen Cert.AttnIdeal.Body
open Idealize.ShloMosaic Idealize.ShloMosaic.TcCoe Idealize.SL.Sem

variable (m : (ℓ : Loc nD τ sig) → Buf (Elt Ideal) ℓ)

set_option maxHeartbeats 4000000 in
theorem out_A (c : Dev nD) (t : Fin cfg0.N) (h0 : t.val % 128 = 0) (hb : ∀ r j, ((iblk m c 7 t : Vec Ideal S128x384 .i32) (ix2 r j)).toNat < 32) :
    (outsAt0 m c t.val t.isLt).1 = blockOf m c t (biasTable (iblk m c 7 t) (iblk m c 8 t)) := by
  rw [outsAt0_A m c t h0]
  dsimp only
  unfold out0_A_12
  funext y
  frame_out
  rw [View.readCov_eq_canon']
  unfold blockOf
  refine congrFun (congrArg (fun A => k0_pay2 (F := Ideal) _ A _) (funext fun z => ?_)) y
  refine (congrArg _ (whole_idx _ z)).trans ?_
  simp only [View.readCov_eq_canon', planes_apply _ _ _ _ _ _ _ _ _ _ _ _ _ _ _ _ _ _ _ _ _ _ _ _ _ _ _ _ _ _ _ _ _ _ _ hb]
  refine congrArg (fun L => View.canon L z) ?_
  unfold headPieces
  dsimp only
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  rfl

theorem table_A (c : Dev nD) (t : Fin cfg0.N) (h0 : t.val % 128 = 0) (hb : ∀ r j, ((iblk m c 7 t : Vec Ideal S128x384 .i32) (ix2 r j)).toNat < 32) :
    (outsAt0 m c t.val t.isLt).2 = biasTable (iblk m c 7 t) (iblk m c 8 t) := by
  rw [outsAt0_A m c t h0]
  dsimp only
  unfold sout0_A_0
  funext y
  frame_out
  exact planes_apply _ _ _ _ _ _ _ _ _ _ _ _ _ _ _ _ _ _ _ _ _ _ _ _ _ _ _ _ _ _ _ _ _ _ _ hb y

theorem table_B (c : Dev nD) (t : Fin cfg0.N) (h0 : ¬t.val % 128 = 0) :
    (outsAt0 m c t.val t.isLt).2 = (outsAt0 m c (t.val - 1) (Nat.lt_of_le_of_lt (Nat.sub_le _ _) t.isLt)).2 := by
  rw [outsAt0_B m c t h0]
  rfl

set_option maxHeartbeats 4000000 in
theorem out_B (c : Dev nD) (t : Fin cfg0.N) (h0 : ¬t.val % 128 = 0) :
    (outsAt0 m c t.val t.isLt).1 = blockOf m c t (outsAt0 m c (t.val - 1) (Nat.lt_of_le_of_lt (Nat.sub_le _ _) t.isLt)).2 := by
  rw [outsAt0_B m c t h0]
  dsimp only
  unfold out0_B_12
  funext y
  frame_out
  rw [View.readCov_eq_canon']
  unfold blockOf
  refine congrFun (congrArg (fun A => k0_pay2 (F := Ideal) _ A _) (funext fun z => ?_)) y
  refine (congrArg _ (whole_idx _ z)).trans ?_
  simp only [read_unread_whole]
  refine congrArg (fun L => View.canon L z) ?_
  unfold headPieces
  dsimp only
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  refine congrArg₂ List.cons ?_ ?_; · rfl
  rfl

end Cert.Proof.Attn

end
-- ==== Proof.AttnIdeal.Reads.lean ====
module

public import proofs.«01_k».proof.Proof.AttnIdeal.Frame
public import proofs.«01_k».proof.Proof.AttnIdeal.Reference
public import Idealize.ShloMosaic.Lib.Pipeline.ValueKit

@[expose] public section

set_option maxRecDepth 16384

noncomputable section

/-! What the kernel's body is given: its blocks, in terms of the arrays. -/

namespace Cert.Proof.Attn

open Cert.AttnIdeal Cert.AttnIdeal.Gen Cert.AttnIdeal.Body
open Idealize.ShloMosaic Idealize.ShloMosaic.TcCoe Idealize.SL.Sem
open Cert.AttnRefIdeal.Read

variable (m : (ℓ : Loc nD τ sig) → Buf (Elt Ideal) ℓ)

/-- The buckets: the host computes the reference's. -/
theorem V_32 (c : Dev nD) : (V m c main_v32 : S128x384.Idx → BitVec 32) = val_main_v54 (F := Ideal) := by
  entry_read
  rfl

theorem V_33 (c : Dev nD) : (V m c main_v33 : S16.Idx → EReal) = val_main_v0 (F := Ideal) (m ((c : Thread nD τ).loc main_arg4)) := by
  entry_read
  rfl

theorem V_35 (c : Dev nD) : (V m c main_v35 : S1024x1024.Idx → EReal) = val_main_v1 (F := Ideal) (m ((c : Thread nD τ).loc main_arg6)) := by
  entry_read
  rfl

/-- Which block each window is at, at every point. -/
theorem idx : ∀ t : Fin cfg0.N, win0_0.index t = ![t.val, 0] ∧ win0_1.index t = ![t.val - 1, 0] ∧ win0_2.index t = ![t.val, 0]
    ∧ win0_3.index t = ![min (t.val + 1) 127, 0] ∧ win0_4.index t = ![t.val - 1, 0] ∧ win0_5.index t = ![t.val, 0]
    ∧ win0_6.index t = ![min (t.val + 1) 127, 0] ∧ win0_7.index t = ![0, 0] ∧ win0_8.index t = ![0, 0] ∧ win0_9.index t = ![0]
    ∧ win0_10.index t = ![t.val, 0] ∧ win0_11.index t = ![0, 0] ∧ win0_12.index t = ![t.val, 0] :=
  (by decide +kernel : ∀ t : Fin grid0.N, _)

/-! The blocks, as elements of the arrays. -/

theorem read_0 (c : Dev nD) (t : Fin cfg0.N) (r : Fin 128) (e : Fin 1024) : (iblk m c 0 t : FVec Ideal S128x1024 .bf16) (ix2 r e)
    = at2 (m := 16384) (n := 1024) (m ((c : Thread nD τ).loc main_arg0)) (t.val * 128 + r.val) e.val := by
  have ht : t.val < 128 := t.isLt
  rw [← at2_eq (m := 16384) (n := 1024) (m ((c : Thread nD τ).loc main_arg0)) ⟨t.val * 128 + r.val, by omega⟩ e _ _ rfl rfl]
  blk_point [iblk, V, idx t]

theorem read_1 (c : Dev nD) (t : Fin cfg0.N) (r : Fin 128) (e : Fin 256) : (iblk m c 1 t : FVec Ideal S128x256 .bf16) (ix2 r e)
    = at2 (m := 16384) (n := 256) (m ((c : Thread nD τ).loc main_arg1)) ((t.val - 1) * 128 + r.val) e.val := by
  have ht : t.val < 128 := t.isLt
  rw [← at2_eq (m := 16384) (n := 256) (m ((c : Thread nD τ).loc main_arg1)) ⟨(t.val - 1) * 128 + r.val, by omega⟩ e _ _ rfl rfl]
  blk_point [iblk, V, idx t]

theorem read_2 (c : Dev nD) (t : Fin cfg0.N) (r : Fin 128) (e : Fin 256) : (iblk m c 2 t : FVec Ideal S128x256 .bf16) (ix2 r e)
    = at2 (m := 16384) (n := 256) (m ((c : Thread nD τ).loc main_arg1)) (t.val * 128 + r.val) e.val := by
  have ht : t.val < 128 := t.isLt
  rw [← at2_eq (m := 16384) (n := 256) (m ((c : Thread nD τ).loc main_arg1)) ⟨t.val * 128 + r.val, by omega⟩ e _ _ rfl rfl]
  blk_point [iblk, V, idx t]

theorem read_3 (c : Dev nD) (t : Fin cfg0.N) (r : Fin 128) (e : Fin 256) : (iblk m c 3 t : FVec Ideal S128x256 .bf16) (ix2 r e)
    = at2 (m := 16384) (n := 256) (m ((c : Thread nD τ).loc main_arg1)) (min (t.val + 1) 127 * 128 + r.val) e.val := by
  have ht : t.val < 128 := t.isLt
  rw [← at2_eq (m := 16384) (n := 256) (m ((c : Thread nD τ).loc main_arg1)) ⟨min (t.val + 1) 127 * 128 + r.val, by omega⟩ e _ _ rfl rfl]
  blk_point [iblk, V, idx t]

theorem read_4 (c : Dev nD) (t : Fin cfg0.N) (r : Fin 128) (e : Fin 256) : (iblk m c 4 t : FVec Ideal S128x256 .bf16) (ix2 r e)
    = at2 (m := 16384) (n := 256) (m ((c : Thread nD τ).loc main_arg2)) ((t.val - 1) * 128 + r.val) e.val := by
  have ht : t.val < 128 := t.isLt
  rw [← at2_eq (m := 16384) (n := 256) (m ((c : Thread nD τ).loc main_arg2)) ⟨(t.val - 1) * 128 + r.val, by omega⟩ e _ _ rfl rfl]
  blk_point [iblk, V, idx t]

theorem read_5 (c : Dev nD) (t : Fin cfg0.N) (r : Fin 128) (e : Fin 256) : (iblk m c 5 t : FVec Ideal S128x256 .bf16) (ix2 r e)
    = at2 (m := 16384) (n := 256) (m ((c : Thread nD τ).loc main_arg2)) (t.val * 128 + r.val) e.val := by
  have ht : t.val < 128 := t.isLt
  rw [← at2_eq (m := 16384) (n := 256) (m ((c : Thread nD τ).loc main_arg2)) ⟨t.val * 128 + r.val, by omega⟩ e _ _ rfl rfl]
  blk_point [iblk, V, idx t]

theorem read_6 (c : Dev nD) (t : Fin cfg0.N) (r : Fin 128) (e : Fin 256) : (iblk m c 6 t : FVec Ideal S128x256 .bf16) (ix2 r e)
    = at2 (m := 16384) (n := 256) (m ((c : Thread nD τ).loc main_arg2)) (min (t.val + 1) 127 * 128 + r.val) e.val := by
  have ht : t.val < 128 := t.isLt
  rw [← at2_eq (m := 16384) (n := 256) (m ((c : Thread nD τ).loc main_arg2)) ⟨min (t.val + 1) 127 * 128 + r.val, by omega⟩ e _ _ rfl rfl]
  blk_point [iblk, V, idx t]

theorem read_7 (c : Dev nD) (t : Fin cfg0.N) : (iblk m c 7 t : Vec Ideal S128x384 .i32) = V m c main_v32 := by
  funext y
  blk_point [iblk, idx t]

theorem read_8 (c : Dev nD) (t : Fin cfg0.N) : (iblk m c 8 t : FVec Ideal S32x16 .f32) = m ((c : Thread nD τ).loc main_arg3) := by
  funext y
  blk_point [iblk, V, idx t]

theorem read_9 (c : Dev nD) (t : Fin cfg0.N) : (iblk m c 9 t : FVec Ideal S16 .f32) = V m c main_v33 := by
  funext y
  blk_point [iblk, idx t]

theorem read_10 (c : Dev nD) (t : Fin cfg0.N) (r : Fin 128) (e : Fin 1024) : (iblk m c 10 t : FVec Ideal S128x1024 .f32) (ix2 r e)
    = at2 (m := 16384) (n := 1024) (m ((c : Thread nD τ).loc main_arg5)) (t.val * 128 + r.val) e.val := by
  have ht : t.val < 128 := t.isLt
  rw [← at2_eq (m := 16384) (n := 1024) (m ((c : Thread nD τ).loc main_arg5)) ⟨t.val * 128 + r.val, by omega⟩ e _ _ rfl rfl]
  blk_point [iblk, V, idx t]

theorem read_11 (c : Dev nD) (t : Fin cfg0.N) : (iblk m c 11 t : FVec Ideal S1024x1024 .bf16) = V m c main_v35 := by
  funext y
  blk_point [iblk, idx t]

end Cert.Proof.Attn

end
-- ==== Proof.AttnIdeal.Bucket.lean ====
module

public import proofs.«01_k».proof.Proof.AttnIdeal.Reference
public import Idealize.ShloMosaic.Lib.StableHlo.Predicate
public import Idealize.ShloMosaic.Lib.ValueIdx

@[expose] public section

set_option maxRecDepth 16384

noncomputable section

/-! The bucket of a distance lies below 32, so the gather of the biases reads the row of that number. -/

namespace Cert.Proof.Attn

open Cert.AttnRefIdeal Cert.AttnRefIdeal.Read
open Idealize.ShloMosaic Idealize.ShloMosaic.TcCoe Idealize.SL.Sem
open Idealize.ShloMosaic.StableHlo.Predicate

theorem eight_word : Ideal.ofBits FTy.f32 0x41000000#32 = ((8 : ℝ) : EReal) := by
  simp [Ideal.ofBits, Ideal.ieee, -EReal.coe_mul]; norm_num

theorem log16_word : Ideal.ofBits FTy.f32 0x40317218#32 = ((1453635 / 524288 : ℝ) : EReal) := by
  simp [Ideal.ofBits, Ideal.ieee, -EReal.coe_mul]; norm_num

/-- The logarithmic part of a bucket, as a real. -/
theorem log_part (n : ℕ) (h8 : 8 ≤ n) (hn : n ≤ 383) :
    ∃ x : ℝ, 0 ≤ x ∧ x ≤ 376 ∧
      Ideal.div (Ideal.log (Ideal.div ((n : ℝ) : EReal) ((8 : ℝ) : EReal))) ((1453635 / 524288 : ℝ) : EReal) * ((8 : ℝ) : EReal) = x := by
  have h8' : (8 : ℝ) ≤ n := by exact_mod_cast h8
  have hn' : (n : ℝ) ≤ 383 := by exact_mod_cast hn
  have hq : (1 : ℝ) ≤ n * (1 / 8) := by linarith
  have hl0 : 0 ≤ Real.log (n * (1 / 8)) := Real.log_nonneg hq
  have hl1 : Real.log (n * (1 / 8)) ≤ n * (1 / 8) - 1 := Real.log_le_sub_one_of_pos (by linarith)
  refine ⟨Real.log (n * (1 / 8)) * (1 / (1453635 / 524288)) * 8, by positivity, ?_, ?_⟩
  · have : Real.log (n * (1 / 8)) ≤ 47 := by linarith
    calc Real.log (n * (1 / 8)) * (1 / (1453635 / 524288)) * 8 ≤ 47 * 1 * 8 := by
          gcongr
          norm_num
      _ = 376 := by norm_num
  · rw [Ideal.div_coe (y := 8) (by norm_num), ← EReal.coe_mul, Ideal.log_coe, if_neg (by linarith), Ideal.div_coe (by norm_num),
      ← EReal.coe_mul, ← EReal.coe_mul]

theorem fptosi_small (x : ℝ) (h0 : 0 ≤ x) (h1 : x ≤ 376) : (Ideal.fptosi 32 (x : EReal)).toNat ≤ 376 := by
  have f0 : 0 ≤ ⌊x⌋ := Int.floor_nonneg.2 h0
  have f1 : ⌊x⌋ ≤ 376 := Int.floor_le_iff.2 (by push_cast; linarith)
  rw [Ideal.fptosi, Ideal.toIntClamped_coe, if_pos h0, BitVec.toNat_ofInt]
  rw [min_eq_right (by norm_num; omega), max_eq_right (by norm_num; omega)]
  omega

/-- A bucket's word lies below 32. -/
theorem bucket_small (w hi : BitVec 32) (hw : w.toNat ≤ 383) (hhi : hi = 0#32 ∨ hi = 16#32) :
    (hi + Scalar.select (IntOp.cmpi .slt w 8#32) w
      (IntOp.minsi (8#32 + Ideal.fptosi 32 (Ideal.div (Ideal.log (Ideal.div (((IntOp.maxsi w 1#32).toInt : ℝ) : EReal)
        (Ideal.ofBits FTy.f32 0x41000000#32))) (Ideal.ofBits FTy.f32 0x40317218#32) * Ideal.ofBits FTy.f32 0x41000000#32)) 15#32)).toNat
      < 32 := by
  have hsel : (Scalar.select (IntOp.cmpi .slt w 8#32) w
      (IntOp.minsi (8#32 + Ideal.fptosi 32 (Ideal.div (Ideal.log (Ideal.div (((IntOp.maxsi w 1#32).toInt : ℝ) : EReal)
        (Ideal.ofBits FTy.f32 0x41000000#32))) (Ideal.ofBits FTy.f32 0x40317218#32) * Ideal.ofBits FTy.f32 0x41000000#32)) 15#32)).toNat
      < 16 := by
    by_cases h : w.toNat < 8
    · rw [(slt_iff_toNat (by omega) (by decide)).2 (by simpa using h)]
      show w.toNat < 16
      omega
    · have h' : ¬IntOp.cmpi .slt w 8#32 = 1#1 := fun e => h (by simpa using (slt_iff_toNat (by omega) (by decide)).1 e)
      rw [show ∀ a b : BitVec 32, Scalar.select (IntOp.cmpi .slt w 8#32) a b = b from fun a b => if_neg h']
      have hm : (IntOp.maxsi w 1#32).toInt = (w.toNat : ℤ) := by
        have : (1#32).slt w = true :=
          (ofBool_eq_one_iff _).1 ((slt_bool_iff_toNat (by decide) (by omega)).2 (by show 1 < w.toNat; omega))
        rw [IntOp.maxsi, if_pos this, toInt_eq_toNat_of_lt (by omega)]
      obtain ⟨x, hx0, hx1, hx⟩ := log_part w.toNat (by omega) hw
      rw [hm, eight_word, log16_word, Int.cast_natCast, hx]
      have hs := fptosi_small x hx0 hx1
      generalize Ideal.fptosi 32 (x : EReal) = f at hs
      have hf : (8#32 + f).toNat = 8 + f.toNat := by
        rw [BitVec.toNat_add]; simp; omega
      rw [IntOp.minsi]
      split
      · rename_i hlt
        have := (slt_bool_iff_toNat (by omega) (by decide)).1 ((ofBool_eq_one_iff _).2 hlt)
        exact Nat.lt_trans this (by decide)
      · decide
  generalize Scalar.select (IntOp.cmpi .slt w 8#32) w _ = s at hsel
  rw [BitVec.toNat_add]
  rcases hhi with rfl | rfl <;> simp <;> omega

/-- The distance of a column from a query. -/
def dist (i : Fin 128) (j : Fin 384) : BitVec 32 :=
  IntOp.absi (BitVec.ofNat 32 j.val - 128#32 - BitVec.ofNat 32 i.val)

theorem dist_small : ∀ (i : Fin 128) (j : Fin 384), (dist i j).toNat ≤ 383 := by
  decide +kernel

theorem bucket_half (i : Fin 128) (j : Fin 384) :
    val_main_v53 (F := Ideal) (ix2 i j) = 0#32 ∨ val_main_v53 (F := Ideal) (ix2 i j) = 16#32 := by
  rw [val_main_v53_apply]
  show val_main_v33 (F := Ideal) (ix2 i j) = 0#32 ∨ val_main_v33 (F := Ideal) (ix2 i j) = 16#32
  rw [val_main_v33_apply, Scalar.select]
  split
  · exact Or.inr rfl
  · exact Or.inl rfl

theorem bucket_lt (i : Fin 128) (j : Fin 384) : (val_main_v54 (F := Ideal) (ix2 i j)).toNat < 32 := by
  rw [val_main_v54_apply]
  have h := bucket_half i j
  generalize val_main_v53 (F := Ideal) (ix2 i j) = hi at h
  pointwise [val_main_v52, val_main_v51, val_main_v50, val_main_c_10, val_main_v49, val_main_v48,
    val_main_c_9, val_main_v47, val_main_v46, val_main_c_8, val_main_v45, val_main_v44, val_main_v43, val_main_cst_7, val_main_v42,
    val_main_v41, val_main_cst_6, val_main_v40, val_main_v39, val_main_v38, val_main_cst, val_main_v37, val_main_v36, val_main_v35,
    val_main_c_5, val_main_v34, val_main_v30, val_main_v29, val_main_v28,
    val_main_v27, val_main_v26, val_main_v25, val_main_v24, val_main_v23, val_main_v22, val_main_c_1]
  exact bucket_small (dist i j) hi (dist_small i j) h

/-- The row the gather reads. -/
theorem wrapped_bucket (i : Fin 128) (j : Fin 384) :
    val_main_v60 (F := Ideal) (ix3 i j 0) = val_main_v54 (F := Ideal) (ix2 i j) := by
  have h := bucket_lt i j
  have e : val_main_v60 (F := Ideal) (ix3 i j 0) = Scalar.select (IntOp.cmpi .slt (val_main_v54 (F := Ideal) (ix2 i j)) 0#32)
      (IntOp.addi (val_main_v54 (F := Ideal) (ix2 i j)) 32#32) (val_main_v54 (F := Ideal) (ix2 i j)) := by
    pointwise [val_main_v60, val_main_v59, val_main_v58, val_main_v57, val_main_c_12, val_main_v56, val_main_v55, val_main_c_11]
  rw [e]
  generalize val_main_v54 (F := Ideal) (ix2 i j) = w at h
  refine if_neg fun e => ?_
  rw [show (1 : BitVec 1) = 1#1 from rfl, slt_iff_toNat (by omega) (by decide)] at e
  simp at e

theorem gather_apply (x : S32x16.Idx → EReal) (idx : IVec S128x384x1 32) (i : Fin 128) (j : Fin 384) (h : Fin 16) :
    Host.gather gather_S32x16_S128x384x1_S128x384x16_2_0_n_n_0_2_116 x idx (ix3 i j h)
      = x (ix2 ⟨min (idx (ix3 i j 0)).toInt.toNat 31, by omega⟩ h) := by
  unfold Host.gather
  congr 1
  funext a
  refine Fin.ext ?_
  show gather_S32x16_S128x384x1_S128x384x16_2_0_n_n_0_2_116.start (ix3 i j h) idx a
    + gather_S32x16_S128x384x1_S128x384x16_2_0_n_n_0_2_116.batchCoord (ix3 i j h) a
    + gather_S32x16_S128x384x1_S128x384x16_2_0_n_n_0_2_116.offCoord (ix3 i j h) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (0 : Fin 2) ∈ gather_S32x16_S128x384x1_S128x384x16_2_0_n_n_0_2_116.startIndexMap from
      List.mem_singleton.mpr rfl)).trans ?_
    have hsi : gather_S32x16_S128x384x1_S128x384x16_2_0_n_n_0_2_116.siIdx (ix3 i j h)
        ⟨List.idxOf (0 : Fin 2) gather_S32x16_S128x384x1_S128x384x16_2_0_n_n_0_2_116.startIndexMap,
          List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    exact congrArg (fun z => min (idx z).toInt.toNat 31) hsi
  | ⟨1, _⟩ =>
    rw [show gather_S32x16_S128x384x1_S128x384x16_2_0_n_n_0_2_116.start (ix3 i j h) idx (⟨1, by decide⟩ : Fin 2) = 0 from rfl]
    simp only [Nat.add_zero, Nat.zero_add]
    rfl

/-- The bias of a head for a query and a column. -/
theorem bias_apply (x3 : S32x16.Idx → EReal) (i : Fin 128) (j : Fin 384) (h : Fin 16) :
    val_main_v61 (F := Ideal) x3 (ix3 i j h) = at2 (m := 32) (n := 16) x3 (val_main_v54 (F := Ideal) (ix2 i j)).toNat h.val := by
  have hb := bucket_lt i j
  have e : val_main_v61 (F := Ideal) x3 (ix3 i j h)
      = x3 (ix2 ⟨min (val_main_v60 (F := Ideal) (ix3 i j 0)).toInt.toNat 31, by omega⟩ h) :=
    gather_apply x3 _ i j h
  rw [e]
  refine at2_eq (m := 32) (n := 16) x3 _ _ _ _ ?_ rfl
  show min (val_main_v60 (F := Ideal) (ix3 i j 0)).toInt.toNat 31 = _
  rw [wrapped_bucket, toInt_eq_toNat_of_lt (by omega)]
  omega

end Cert.Proof.Attn
-- ==== Proof.AttnIdeal.Words.lean ====
module

public import proofs.«01_k».proof.Proof.AttnIdeal.Table
public import proofs.«01_k».proof.Proof.AttnIdeal.Head
public import proofs.«01_k».proof.Proof.AttnIdeal.Bucket

@[expose] public section

set_option maxRecDepth 16384

noncomputable section

/-! The two masks: the columns of the sequence and the columns of the window. -/

namespace Cert.Proof.Attn

open Cert.AttnIdeal Cert.AttnIdeal.Gen Cert.AttnIdeal.Body
open Idealize.ShloMosaic Idealize.ShloMosaic.TcCoe Idealize.SL.Sem
open Cert.AttnRefIdeal.Read

/-- The block's place in its sequence, as the kernel computes it. -/
def pos (t : Fin grid0.N) : BitVec 32 :=
  let d : BitVec 32 := Scalar.select (Scalar.cmpi .eq 64#32 0#32) 1#32 64#32
  let r : BitVec 32 := Scalar.remsi (BitVec.ofNat 32 (grid0.coords t 0).val) d
  Scalar.select (Scalar.andi (Scalar.xori (Scalar.cmpi .slt r 0#32) (Scalar.cmpi .slt d 0#32)) (Scalar.cmpi .ne r 0#32)) (Scalar.addi r d) r

theorem pos_eq : ∀ t : Fin grid0.N, pos t = BitVec.ofNat 32 (t.val % 64) := by decide +kernel

/-- Whether column `j` around block `n` is one of the sequence's. -/
def inSeq (n : ℕ) (j : Fin 384) : BitVec 1 :=
  IntOp.andi (IntOp.ori (IntOp.cmpi .sge (BitVec.ofNat 32 j.val) 128#32) (Scalar.cmpi .sgt (BitVec.ofNat 32 n) 0#32))
    (IntOp.ori (IntOp.cmpi .slt (BitVec.ofNat 32 j.val) 256#32) (Scalar.cmpi .slt (BitVec.ofNat 32 n) 63#32))

theorem ok_apply (t : Fin grid0.N) (i : Fin 128) (j : Fin 384) : k0_pay6 (grid0.coords t) (ix2 i j) = inSeq (t.val % 64) j := by
  pointwise [k0_pay6]
  exact congrArg (fun p => IntOp.andi (IntOp.ori (IntOp.cmpi .sge (BitVec.ofNat 32 j.val) 128#32) (Scalar.cmpi .sgt p 0#32))
    (IntOp.ori (IntOp.cmpi .slt (BitVec.ofNat 32 j.val) 256#32) (Scalar.cmpi .slt p 63#32))) (pos_eq t)

theorem inSeq_valid : ∀ (n : Fin 64) (j : Fin 384), inSeq n.val j = 1#1 → 128 ≤ n.val * 128 + j.val ∧ n.val * 128 + j.val - 128 < 8192 := by
  decide +kernel

theorem inSeq_word : ∀ (n : Fin 64) (j : Fin 384), IntOp.andi
    (IntOp.cmpi .sge (IntOp.addi (IntOp.subi (IntOp.muli (BitVec.ofNat 32 n.val) 128#32) 128#32) (BitVec.ofNat 32 j.val)) 0#32)
    (IntOp.cmpi .slt (IntOp.addi (IntOp.subi (IntOp.muli (BitVec.ofNat 32 n.val) 128#32) 128#32) (BitVec.ofNat 32 j.val)) 8192#32)
      = inSeq n.val j := by
  decide +kernel

theorem seq_apply (n : Fin 64) (j : Fin 384) : val_main_v83 (F := Ideal) (ix2 n j) = inSeq n.val j := by
  rw [← inSeq_word]
  pointwise [val_main_v83, val_main_v82, val_main_v81, val_main_v80, val_main_v79, val_main_v78]
  rfl

theorem near_apply (i : Fin 128) (j : Fin 384) : val_main_v77 (F := Ideal) (ix2 i j) = near i j := by
  pointwise [val_main_v77, val_main_v76, val_main_v75, val_main_v30, val_main_v29, val_main_v28, val_main_v27, val_main_v26, val_main_v25, val_main_v24, val_main_v23, val_main_v22, val_main_v21, val_main_v20]
  rfl

end Cert.Proof.Attn

end
-- ==== Proof.AttnIdeal.Row.lean ====
module

public import proofs.«01_k».proof.Proof.AttnIdeal.Words

@[expose] public section

set_option maxRecDepth 16384

noncomputable section

/-! One row of one head: the kernel's output is the reference's, where the queries, the keys, the relative biases and the
    sinks are finite. -/

namespace Cert.Proof.Attn

open Cert.AttnIdeal Cert.AttnIdeal.Gen Cert.AttnIdeal.Body
open Idealize.ShloMosaic Idealize.ShloMosaic.TcCoe Idealize.SL.Sem
open Cert.AttnRefIdeal.Read

/-- An array of finite numbers. -/
def Finite {s : Shape} (A : s.Idx → EReal) : Prop := ∀ y, ∃ r : ℝ, A y = r

theorem at2_real {m n : ℕ} {A : (⟨2, ![m, n]⟩ : Shape).Idx → EReal} (hA : Finite A) (r c : ℕ) : ∃ q : ℝ, at2 A r c = q := by
  rw [at2]
  split
  · exact hA _
  · exact ⟨0, rfl⟩

theorem sum_real {n : ℕ} (f : Fin n → EReal) (hf : ∀ d, ∃ r : ℝ, f d = r) : ∃ r : ℝ, ∑ d, f d = r := by
  choose g hg using hf
  refine ⟨∑ d, g d, (Finset.sum_congr rfl fun d _ => hg d).trans ?_⟩
  exact (map_sum (⟨⟨Real.toEReal, rfl⟩, EReal.coe_add⟩ : ℝ →+ EReal) g Finset.univ).symm

theorem bit_cases : ∀ w : BitVec 1, w = 0#1 ∨ w = 1#1 := by decide

/-- A mask on the bias is a mask on the sum. -/
theorem mask_sum (n w : BitVec 1) (s b : EReal) :
    Scalar.select w (s + Scalar.select n b ⊥) ⊥ = Scalar.select (IntOp.andi n w) (s + b) ⊥ := by
  obtain rfl | rfl := bit_cases n
  all_goals obtain rfl | rfl := bit_cases w
  all_goals simp [Scalar.select, IntOp.andi]

/-- The columns outside the sequence do not matter. -/
theorem masked_congr (n w : BitVec 1) (s s' b : EReal) (h : w = 1#1 → s = s') :
    Scalar.select (IntOp.andi n w) (s + b) ⊥ = Scalar.select (IntOp.andi n w) (s' + b) ⊥ := by
  obtain rfl | rfl := bit_cases w
  · obtain rfl | rfl := bit_cases n
    all_goals simp [Scalar.select, IntOp.andi]
  · rw [h rfl]

/-- Three blocks of keys or values, side by side, are the rows around the middle block. -/
theorem cat_apply (x : S16384x256.Idx → EReal) (K0 K1 K2 : FVec Ideal S128x256 .bf16) (t : Fin 128)
    (B0 : ∀ r e, K0 (ix2 r e) = at2 (m := 16384) (n := 256) x ((t.val - 1) * 128 + r.val) e.val)
    (B1 : ∀ r e, K1 (ix2 r e) = at2 (m := 16384) (n := 256) x (t.val * 128 + r.val) e.val)
    (B2 : ∀ r e, K2 (ix2 r e) = at2 (m := 16384) (n := 256) x (min (t.val + 1) 127 * 128 + r.val) e.val)
    (h : Fin 16) (j : Fin 384) (d : Fin 64)
    (hv : 128 ≤ t.val % 64 * 128 + j.val ∧ t.val % 64 * 128 + j.val - 128 < 8192) :
    cat3 (colsK K0 h) (colsK K1 h) (colsK K2 h) j d
      = at2 (m := 16384) (n := 256) x (t.val / 64 * 8192 + (t.val % 64 * 128 + j.val - 128)) (h.val / 4 * 64 + d.val) := by
  obtain ⟨h1, h2⟩ := hv
  rw [cat3]
  split_ifs with c1 c2
  · rw [colsK_apply, B0]
    exact congrArg₂ (at2 (m := 16384) (n := 256) x) (by dsimp only; omega) (by dsimp only; omega)
  · rw [colsK_apply, B1]
    exact congrArg₂ (at2 (m := 16384) (n := 256) x) (by dsimp only; omega) (by dsimp only; omega)
  · rw [colsK_apply, B2]
    exact congrArg₂ (at2 (m := 16384) (n := 256) x) (by dsimp only; omega) (by dsimp only; omega)

section Rows

variable (x0 : S16384x1024.Idx → EReal) (x1 x2 : S16384x256.Idx → EReal) (x3 : S32x16.Idx → EReal) (x4 : S1x16.Idx → EReal)
  (b : Fin 2) (n : Fin 64) (h g : Fin 4) (i : Fin 128)

/-- The reference's logits, in terms of the arrays. -/
theorem row_apply (j : Fin 384) : refRow x0 x1 x3 b n h g i j
    = Scalar.select (IntOp.andi (near i j) (inSeq n.val j))
        ((∑ d : Fin 64, at2 (m := 16384) (n := 256) x1 (b.val * 8192 + (n.val * 128 + j.val - 128)) (h.val * 64 + d.val)
            * at2 (m := 16384) (n := 1024) x0 (b.val * 8192 + n.val * 128 + i.val) (h.val * 256 + g.val * 64 + d.val))
          + at2 (m := 32) (n := 16) x3 (val_main_v54 (F := Ideal) (ix2 i j)).toNat (h.val * 4 + g.val)) ⊥ := by
  rw [refRow, logit_apply, near_apply, seq_apply, bias_apply]
  exact masked_congr _ _ _ _ _ fun hw => Finset.sum_congr rfl fun d _ => by rw [key_apply x1 b n j h d (inSeq_valid n j hw)]

theorem row_ne_top (h0 : Finite x0) (h1 : Finite x1) (h3 : Finite x3) (j : Fin 384) : refRow x0 x1 x3 b n h g i j ≠ ⊤ := by
  rw [row_apply]
  obtain ⟨s, hs⟩ := sum_real (fun d : Fin 64 => at2 (m := 16384) (n := 256) x1 (b.val * 8192 + (n.val * 128 + j.val - 128)) (h.val * 64 + d.val)
      * at2 (m := 16384) (n := 1024) x0 (b.val * 8192 + n.val * 128 + i.val) (h.val * 256 + g.val * 64 + d.val)) fun d => by
    obtain ⟨p, hp⟩ := at2_real (m := 16384) (n := 256) h1 (b.val * 8192 + (n.val * 128 + j.val - 128)) (h.val * 64 + d.val)
    obtain ⟨q, hq⟩ := at2_real (m := 16384) (n := 1024) h0 (b.val * 8192 + n.val * 128 + i.val) (h.val * 256 + g.val * 64 + d.val)
    exact ⟨p * q, by rw [hp, hq, EReal.coe_mul]⟩
  obtain ⟨q, hq⟩ := at2_real (m := 32) (n := 16) h3 (val_main_v54 (F := Ideal) (ix2 i j)).toNat (h.val * 4 + g.val)
  rw [hs, hq, ← EReal.coe_add]
  generalize IntOp.andi (near i j) (inSeq n.val j) = w
  obtain rfl | rfl := bit_cases w
  · exact bot_ne_top
  · exact EReal.coe_ne_top _

theorem row_valid (j : Fin 384) (hj : refRow x0 x1 x3 b n h g i j ≠ ⊥) :
    128 ≤ n.val * 128 + j.val ∧ n.val * 128 + j.val - 128 < 8192 := by
  refine inSeq_valid n j (by_contra fun hw => hj ?_)
  rw [row_apply]
  obtain hw : inSeq n.val j = 0#1 := by
    generalize inSeq n.val j = w at hw ⊢
    revert w; decide
  rw [hw]
  refine if_neg ?_
  generalize near i j = w
  revert w; decide

end Rows

section Heads

variable (x0 : S16384x1024.Idx → EReal) (x1 x2 : S16384x256.Idx → EReal) (x3 : S32x16.Idx → EReal) (x4 : S1x16.Idx → EReal)
  (t : Fin grid0.N) (Q : FVec Ideal S128x1024 .bf16) (K0 K1 K2 V0 V1 V2 : FVec Ideal S128x256 .bf16)

/-- The kernel's logits are the reference's. -/
theorem logit_eq (BQ : ∀ r e, Q (ix2 r e) = at2 (m := 16384) (n := 1024) x0 (t.val * 128 + r.val) e.val)
    (B0 : ∀ r e, K0 (ix2 r e) = at2 (m := 16384) (n := 256) x1 ((t.val - 1) * 128 + r.val) e.val)
    (B1 : ∀ r e, K1 (ix2 r e) = at2 (m := 16384) (n := 256) x1 (t.val * 128 + r.val) e.val)
    (B2 : ∀ r e, K2 (ix2 r e) = at2 (m := 16384) (n := 256) x1 (min (t.val + 1) 127 * 128 + r.val) e.val)
    (H : Fin 16) (i : Fin 128) (j : Fin 384) (b : Fin 2) (n : Fin 64) (h g : Fin 4) (hb : b.val = t.val / 64) (hn : n.val = t.val % 64)
    (hh : h.val = H.val / 4) (hg : g.val = H.val % 4) :
    logit (k0_pay6 (grid0.coords t)) (colsK K0 H) (colsK K1 H) (colsK K2 H) (colsQ Q H)
        (planeOf (biasTable (val_main_v54 (F := Ideal)) x3) H) i j
      = refRow x0 x1 x3 b n h g i j := by
  rw [logit, ok_apply, planeOf_apply, row_apply]
  refine (mask_sum (near i j) _ _ (at2 (m := 32) (n := 16) x3 (val_main_v54 (F := Ideal) (ix2 i j)).toNat H.val)).trans ?_
  rw [show H.val = h.val * 4 + g.val by omega, ← hn]
  refine masked_congr _ _ _ _ _ fun hw => Finset.sum_congr rfl fun d _ => ?_
  have hv := inSeq_valid n j hw
  rw [cat_apply x1 K0 K1 K2 t B0 B1 B2 H j d (hn ▸ hv), colsQ_apply, BQ, mul_comm, ← hb, ← hn, ← hh]
  exact congrArg (fun z => _ * z) (congrArg₂ (at2 (m := 16384) (n := 1024) x0) (by omega) (by dsimp only; omega))

/-- A head's output is the reference's. -/
theorem head_eq (h0 : Finite x0) (h1 : Finite x1) (h3 : Finite x3) (h4 : Finite x4)
    (BQ : ∀ r e, Q (ix2 r e) = at2 (m := 16384) (n := 1024) x0 (t.val * 128 + r.val) e.val)
    (B0 : ∀ r e, K0 (ix2 r e) = at2 (m := 16384) (n := 256) x1 ((t.val - 1) * 128 + r.val) e.val)
    (B1 : ∀ r e, K1 (ix2 r e) = at2 (m := 16384) (n := 256) x1 (t.val * 128 + r.val) e.val)
    (B2 : ∀ r e, K2 (ix2 r e) = at2 (m := 16384) (n := 256) x1 (min (t.val + 1) 127 * 128 + r.val) e.val)
    (C0 : ∀ r e, V0 (ix2 r e) = at2 (m := 16384) (n := 256) x2 ((t.val - 1) * 128 + r.val) e.val)
    (C1 : ∀ r e, V1 (ix2 r e) = at2 (m := 16384) (n := 256) x2 (t.val * 128 + r.val) e.val)
    (C2 : ∀ r e, V2 (ix2 r e) = at2 (m := 16384) (n := 256) x2 (min (t.val + 1) 127 * 128 + r.val) e.val)
    (H : Fin 16) (i : Fin 128) (d : Fin 64) (r : Fin 16384) (e : Fin 1024) (hr : r.val = t.val * 128 + i.val)
    (he : e.val = 64 * H.val + d.val) :
    headPay (k0_pay6 (grid0.coords t)) Q K0 K1 K2 V0 V1 V2 (planeOf (biasTable (val_main_v54 (F := Ideal)) x3))
        (sinkOf (val_main_v0 (F := Ideal) x4)) H (ix2 i d)
      = val_main_v110 (F := Ideal) x0 x1 x2 x3 x4 (ix2 r e) := by
  have ht : t.val < 128 := t.isLt
  let b : Fin 2 := ⟨t.val / 64, by omega⟩
  let n : Fin 64 := ⟨t.val % 64, by omega⟩
  let h : Fin 4 := ⟨H.val / 4, by omega⟩
  let g : Fin 4 := ⟨H.val % 4, by omega⟩
  have hL : logit (k0_pay6 (grid0.coords t)) (colsK K0 H) (colsK K1 H) (colsK K2 H) (colsQ Q H)
      (planeOf (biasTable (val_main_v54 (F := Ideal)) x3) H) i = refRow x0 x1 x3 b n h g i :=
    funext fun j => logit_eq x0 x1 x3 t Q K0 K1 K2 BQ B0 B1 B2 H i j b n h g rfl rfl rfl rfl
  have hs : sinkOf (val_main_v0 (F := Ideal) x4) H = refSink x4 h g := by
    rw [sinkOf, val_main_v0_apply, refSink]
    refine (congrArg x4 (?_ : _ = ix2 (0 : Fin 1) H)).trans
      (at2_eq (m := 1) (n := 16) x4 0 H 0 _ rfl (by show H.val = H.val / 4 * 4 + H.val % 4; omega))
    funext a
    apply Fin.ext
    match a with
    | ⟨0, _⟩ => rfl
    | ⟨1, _⟩ => show H.val % 16 = H.val; omega
  rw [headPay, head_apply, hL, hs, out_apply x0 x1 x2 x3 x4 r e b n h g i d
    (by show r.val = t.val / 64 * 8192 + t.val % 64 * 128 + i.val; omega)
    (by show e.val = H.val / 4 * 256 + H.val % 4 * 64 + d.val; omega)]
  obtain ⟨s, hs'⟩ : ∃ s : ℝ, refSink x4 h g = s := at2_real (m := 1) (n := 16) h4 _ _
  rw [hs']
  refine softmax_sum _ s _ _ (row_ne_top x0 x1 x3 b n h g i h0 h1 h3) fun j hj => ?_
  have hv := row_valid x0 x1 x3 b n h g i j hj
  rw [value_apply x2 b n j h d hv]
  exact cat_apply x2 V0 V1 V2 t C0 C1 C2 H j d hv

end Heads

end Cert.Proof.Attn

end
-- ==== Proof.AttnIdeal.Value.lean ====
module

public import proofs.«01_k».proof.Proof.AttnIdeal.Blocks
public import proofs.«01_k».proof.Proof.AttnIdeal.Reads
public import proofs.«01_k».proof.Proof.AttnIdeal.Row

@[expose] public section

set_option maxRecDepth 16384

noncomputable section

/-! The attention's result: what every point stores is the reference's rows. -/

namespace Cert.Proof.Attn

open Cert.AttnIdeal Cert.AttnIdeal.Gen Cert.AttnIdeal.Body
open Idealize.ShloMosaic Idealize.ShloMosaic.TcCoe Idealize.SL.Sem
open Cert.AttnRefIdeal.Read

variable (m : (ℓ : Loc nD τ sig) → Buf (Elt Ideal) ℓ)

/-- The table of biases, from the arrays. -/
def table (c : Dev nD) : S16x128x384.Idx → EReal :=
  biasTable (val_main_v54 (F := Ideal)) (m ((c : Thread nD τ).loc main_arg3))

theorem buckets_small (c : Dev nD) (t : Fin cfg0.N) (r : Fin 128) (j : Fin 384) :
    ((iblk m c 7 t : Vec Ideal S128x384 .i32) (ix2 r j)).toNat < 32 := by
  rw [read_7, V_32]
  exact bucket_lt r j

/-- The table made at the first point is the table, and every later point finds it. -/
theorem table_eq (c : Dev nD) : ∀ (n : ℕ) (hn : n < cfg0.N), (outsAt0 m c n hn).2 = table m c
  | 0, hn => by
    refine (table_A m c ⟨0, hn⟩ rfl (buckets_small m c ⟨0, hn⟩)).trans ?_
    rw [read_7, V_32, read_8]
    rfl
  | n + 1, hn => by
    have h128 : n + 1 < 128 := hn
    exact (table_B m c ⟨n + 1, hn⟩ (by dsimp only; omega)).trans (table_eq c n (by omega))

theorem out_eq (c : Dev nD) (t : Fin cfg0.N) : (outsAt0 m c t.val t.isLt).1 = blockOf m c t (table m c) := by
  have ht : t.val < 128 := t.isLt
  by_cases h0 : t.val % 128 = 0
  · refine (out_A m c t h0 (buckets_small m c t)).trans ?_
    rw [read_7, V_32, read_8]
    rfl
  · exact (out_B m c t h0).trans (congrArg (blockOf m c t) (table_eq m c _ _))

/-- What point `t` stores in its row `r` is the reference's row `128 t + r`. -/
theorem block_eq (c : Dev nD) (h0 : Finite (s := S16384x1024) (m ((c : Thread nD τ).loc main_arg0)))
    (h1 : Finite (s := S16384x256) (m ((c : Thread nD τ).loc main_arg1))) (h3 : Finite (s := S32x16) (m ((c : Thread nD τ).loc main_arg3)))
    (h4 : Finite (s := S1x16) (m ((c : Thread nD τ).loc main_arg4))) (t : Fin cfg0.N) (r : Fin 128) (e : Fin 1024) (r' : Fin 16384)
    (hr : r'.val = t.val * 128 + r.val) :
    blockOf m c t (table m c) (ix2 r e)
      = val_main_v112 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix2 r' e) := by
  rw [blockOf, product_apply, read_10, val_main_v112_apply, val_main_v111_apply, read_11, V_35, read_9, V_33]
  refine congrArg₂ (· + ·) (at2_eq (m := 16384) (n := 1024) (m ((c : Thread nD τ).loc main_arg5)) r' e _ _ hr rfl).symm
    (Finset.sum_congr rfl fun k _ => congrArg₂ (· * ·) ?_ ?_)
  · refine (headPieces_apply _ _ _ _ _ _ _ _ _ _ r ⟨k.val / 64, by omega⟩ ⟨k.val % 64, by omega⟩ k
      (by dsimp only; omega)).trans ?_
    refine (head_eq (m ((c : Thread nD τ).loc main_arg0)) (m ((c : Thread nD τ).loc main_arg1)) (m ((c : Thread nD τ).loc main_arg2))
      (m ((c : Thread nD τ).loc main_arg3)) (m ((c : Thread nD τ).loc main_arg4)) t _ _ _ _ _ _ _ h0 h1 h3 h4 (read_0 m c t) (read_1 m c t)
      (read_2 m c t) (read_3 m c t) (read_4 m c t) (read_5 m c t) (read_6 m c t) _ r _ r' k hr (by dsimp only; omega)).trans ?_
    refine congrArg _ ?_
    funext a
    match a with
    | ⟨0, _⟩ => rfl
    | ⟨1, _⟩ => rfl
  · refine congrArg _ ?_
    funext a
    match a with
    | ⟨0, _⟩ => rfl
    | ⟨1, _⟩ => rfl

/-- The result. -/
theorem final12 (c : Dev nD) (h0 : Finite (s := S16384x1024) (m ((c : Thread nD τ).loc main_arg0)))
    (h1 : Finite (s := S16384x256) (m ((c : Thread nD τ).loc main_arg1))) (h3 : Finite (s := S32x16) (m ((c : Thread nD τ).loc main_arg3)))
    (h4 : Finite (s := S1x16) (m ((c : Thread nD τ).loc main_arg4))) :
    (dats m 0 c).arrAt 12 cfg0.N
      = val_main_v112 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 12 _ (by decide +kernel) fun t hf y => ?_
  blk_simp
  rw [after0_12, out_eq]
  idx_vars y
  refine (block_eq m c h0 h1 h3 h4 t y0 y1 ⟨t.val * 128 + y0.val, by have := t.isLt; have : t.val < 128 := t.isLt; omega⟩ rfl).trans ?_
  blk_point [idx t]

end Cert.Proof.Attn

end
-- ==== Proof.AttnIdeal.Reals.lean ====
module

public import proofs.«01_k».proof.Pre_finite
public import proofs.«01_k».proof.Proof.AttnIdeal.Row
public import proofs.«01_k».proof.Proof.AttnIdeal.Frame
public import Idealize.ShloMosaic.Lib.ReduceAll

@[expose] public section

set_option maxRecDepth 16384

noncomputable section

/-! What the precondition says: four of the arrays hold real numbers only. -/

namespace Cert.Pre_finite

/-- The precondition's operations fit their shapes. -/
theorem facts : Facts where
  bcast_S_S16384x1024 := by decide
  reducesTo_S16384x1024_S_d0_1 := by decide
  h_S_ := by decide
  bcast_S_S16384x256 := by decide
  reducesTo_S16384x256_S_d0_1 := by decide
  bcast_S_S32x16 := by decide
  reducesTo_S32x16_S_d0_1 := by decide
  bcast_S_S1x16 := by decide
  reducesTo_S1x16_S_d0_1 := by decide

end Cert.Pre_finite

namespace Cert.Proof.Attn

open Idealize.ShloMosaic Idealize.ShloMosaic.TcCoe Idealize.SL.Sem

/-- The words the precondition compares with are `⊤`. -/
theorem top_word16 : Ideal.ofBits FTy.bf16 0x7F80#16 = ⊤ := by
  simp [Ideal.ofBits, Ideal.ieee]

theorem top_word32 : Ideal.ofBits FTy.f32 0x7F800000#32 = ⊤ := by
  simp [Ideal.ofBits, Ideal.ieee]

/-- A number whose absolute value is below `⊤` is a real. -/
theorem real_of_abs_lt {x b : EReal} (hb : b = ⊤) (h : Ideal.cmp .olt (max x (-x)) b = 1#1) : ∃ r : ℝ, x = r := by
  subst hb
  induction x with
  | bot => simp [Ideal.cmp] at h
  | top => simp [Ideal.cmp] at h
  | coe r => exact ⟨r, rfl⟩

instance : Subsingleton Cert.Pre_finite.S_.Idx := ⟨fun a b => funext fun i => i.elim0⟩

attribute [local instance] Cert.Pre_finite.facts

open Cert.Pre_finite in
/-- Where the precondition holds, queries, keys, biases and sinks are real numbers. -/
theorem finite_of_pre (x0 : FVec Ideal S16384x1024 .bf16) (x1 x2 : FVec Ideal S16384x256 .bf16) (x3 : FVec Ideal S32x16 .f32)
    (x4 : FVec Ideal S1x16 .f32) (x5 : FVec Ideal S16384x1024 .f32) (x6 : FVec Ideal S1x1024x1024 .f32)
    (h : fn (F := Ideal) x0 x1 x2 x3 x4 x5 x6 = fun _ => 1#1) : Finite x0 ∧ Finite x1 ∧ Finite x3 ∧ Finite x4 := by
  have h := congrFun h (fun i => i.elim0)
  dsimp only [fn, fn_part1] at h
  obtain ⟨h, h4⟩ := IntOp.andi_eq_one.mp h
  obtain ⟨h, h3⟩ := IntOp.andi_eq_one.mp h
  obtain ⟨h0, h1⟩ := IntOp.andi_eq_one.mp h
  refine ⟨fun y => ?_, fun y => ?_, fun y => ?_, fun y => ?_⟩
  · exact real_of_abs_lt top_word16 (Host.reduce_andi_all _ _ _ _ _ h0 y)
  · exact real_of_abs_lt top_word16 (Host.reduce_andi_all _ _ _ _ _ h1 y)
  · exact real_of_abs_lt top_word32 (Host.reduce_andi_all _ _ _ _ _ h3 y)
  · exact real_of_abs_lt top_word32 (Host.reduce_andi_all _ _ _ _ _ h4 y)

end Cert.Proof.Attn

end
-- ==== Proof.AttnClaims.lean ====
/- The claims about the attention: the kernel and its reference leave the same array. -/
module

public import proofs.«01_k».proof.Defs
public import proofs.«01_k».proof.Proof.AttnIdeal.Value
public import proofs.«01_k».proof.Proof.AttnIdeal.Reals
public import proofs.«01_k».proof.Proof.Gen.AttnRefIdeal
public import Idealize.ShloMosaic.Lib.Quiescent

@[expose] public section

set_option maxRecDepth 16384

noncomputable section

namespace Cert.Proof

open Idealize.ShloMosaic Idealize.ShloMosaic.TcCoe Idealize.SL.Sem

theorem quiescent_AttnRefIdeal : Cert.quiescent_AttnRefIdeal (hAttnRefIdeal := Cert.AttnRefIdeal.Gen.facts) := fun m g _ =>
  (θ_run _ _ _).mono (fun r h => ⟨fun c => (h c).2, sem_eq_zero_of_no_sems (by decide) r.2⟩) (Cert.AttnRefIdeal.Value.run m g)

theorem quiescent_AttnIdeal_pre : Cert.quiescent_AttnIdeal_pre_finite (hAttnIdeal := Cert.AttnIdeal.Gen.facts) (hPre_finite := Cert.Pre_finite.facts) :=
  fun m g _ => Cert.AttnIdeal.Body.frame m g

theorem quiescent_AttnRefIdeal_pre :
    Cert.quiescent_AttnRefIdeal_pre_finite (hAttnRefIdeal := Cert.AttnRefIdeal.Gen.facts) (hPre_finite := Cert.Pre_finite.facts) :=
  fun m g _ => quiescent_AttnRefIdeal m g trivial

theorem algebraic_AttnIdeal : Cert.algebraic_AttnIdeal_AttnRefIdeal_pre_finite (hAttnIdeal := Cert.AttnIdeal.Gen.facts)
    (hAttnRefIdeal := Cert.AttnRefIdeal.Gen.facts) (hPre_finite := Cert.Pre_finite.facts) := by
  intro m g m' g' hp h
  refine ⟨fun c => Cert.AttnRefIdeal.Read.val_main_v112 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)), ?_, ?_⟩
  · refine (θ_run _ _ _).mono (fun r h c => ?_) (θ_run_and (Cert.AttnIdeal.Body.run_main (F := Ideal) m g) (Cert.AttnIdeal.Body.unchanged (F := Ideal) m g))
    obtain ⟨h0, h1, h3, h4⟩ := Attn.finite_of_pre _ _ _ _ _ _ _ (hp c)
    exact ⟨((h.1 c).1 12).trans (Attn.final12 m c h0 h1 h3 h4), h.2 c⟩
  · refine (θ_run _ _ _).mono (fun r h' c => ?_) (Cert.AttnRefIdeal.Value.run (F := Ideal) m' g')
    obtain h' := h' c
    obtain ⟨e0, e1, e2, e3, e4, e5, e6⟩ := h c
    exact ⟨h'.1.trans (by rw [Cert.AttnRefIdeal.Read.val_main_v112_eq, e0, e1, e2, e3, e4, e5, e6]), h'.2⟩

end Cert.Proof

end
-- ==== Proof.ConvLayer.lean ====
/- The convolution's two calls, one after the other: the second finds what the first left, and what it leaves is the
   reference's layer, row for row. -/
module

public import proofs.«01_k».proof.Proof.Gen.ConvLayerIdeal.Frame
public import proofs.«01_k».proof.Proof.Gen.ConvLayerRefIdeal.Read
public import proofs.«01_k».proof.Proof.ConvOut
public import Idealize.ShloMosaic.Lib.Pipeline.ValueKit
public import Idealize.ShloMosaic.Lib.Pointwise

@[expose] public section

set_option maxRecDepth 16384

noncomputable section

namespace Cert.Proof.ConvLayer

open Cert.ConvLayerIdeal Cert.ConvLayerIdeal.Gen
open Idealize.ShloMosaic Idealize.ShloMosaic.TcCoe Idealize.SL.Sem
open Cert.ConvLayerRefIdeal.Read

variable (m : (ℓ : Loc nD τ sig) → Buf (Elt Ideal) ℓ) (ρ : Dev nD → PrngReg)

/-- Two sequences of rows as one array of rows. -/
def flat (U : S2x8192x1024.Idx → EReal) : S16384x1024.Idx → EReal := fun i =>
  U (ix3 ⟨(i 0).val / 8192, by have := (i 0).isLt; change _ < 16384 at this; omega⟩ ⟨(i 0).val % 8192, by omega⟩ (i 1))

/-- A row of a sequence, by its place in the one array. -/
theorem flat_at (U : S2x8192x1024.Idx → EReal) (a b : ℕ) (x : Fin 1024) (ha : a < 2) (hb : b < 8192) (h : a * 8192 + b < 16384) :
    flat U (ix2 ⟨a * 8192 + b, h⟩ x) = U (ix3 ⟨a, ha⟩ ⟨b, hb⟩ x) := by
  show U (ix3 ⟨(a * 8192 + b) / 8192, _⟩ ⟨(a * 8192 + b) % 8192, _⟩ x) = _
  congr 1
  exact congrArg₂ (fun (i : Fin 2) (j : Fin 8192) => ix3 i j x) (Fin.ext (by simp only []; omega)) (Fin.ext (by simp only []; omega))

/-- Which block each window of the first call is at, at every point. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Which block each window of the second call is at, at every point. -/
theorem idx1 : ∀ t : Fin cfg1.N, win1_0.index t = ![t.val, 0] ∧ win1_1.index t = ![64 * t.val - 1, 0]
    ∧ win1_2.index t = ![min (64 * t.val + 64) 2047, 0] ∧ win1_3.index t = ![t.val, 0] ∧ win1_4.index t = ![t.val, 0]
    ∧ win1_5.index t = ![0, 0] ∧ win1_6.index t = ![0, 0] ∧ win1_7.index t = ![t.val, 0] :=
  (by decide +kernel : ∀ t : Fin grid1.N, _)

/-! ## What the calls find -/

theorem v0_eq (c : Dev nD) : V1 m ρ c main_v0 = flat (m ((c : Thread nD τ).loc main_arg0)) := by
  show StableHlo.after hostOps0 (W0 m ρ c) (Proc.devRef .tc main_v0) = _
  entry_read
  funext i
  idx_vars i
  pointwise [flat]

theorem v2_eq (c : Dev nD) (x : Fin 1024) : V1 m ρ c main_v2 (ix2 0 x) = m ((c : Thread nD τ).loc main_arg1) (ix2 0 x) := by
  show StableHlo.after hostOps0 (W0 m ρ c) (Proc.devRef .tc main_v2) _ = _
  entry_read
  pointwise

theorem v4_eq (c : Dev nD) (x : Fin 1024) (y : Fin 3072) :
    V1 m ρ c main_v4 (ix2 x y) = m ((c : Thread nD τ).loc main_arg2) (ix3 0 x y) := by
  show StableHlo.after hostOps0 (W0 m ρ c) (Proc.devRef .tc main_v4) _ = _
  entry_read
  pointwise

theorem w0_eq (c : Dev nD) : V3 m ρ c main_v0 = flat (m ((c : Thread nD τ).loc main_arg0)) :=
  (W3_of m ρ c main_v0 (by decide)).trans ((W2_of m ρ c main_v0 (by decide)).trans (v0_eq m ρ c))

theorem w5_0_eq (c : Dev nD) : V3 m ρ c main_v5_0 = (dat0 (V1 m ρ) c).arrAt 3 cfg0.N :=
  (W3_of m ρ c main_v5_0 (by decide)).trans (W2_arr m ρ c 3)

theorem w5_1_eq (c : Dev nD) : V3 m ρ c main_v5_1 = (dat0 (V1 m ρ) c).arrAt 4 cfg0.N :=
  (W3_of m ρ c main_v5_1 (by decide)).trans (W2_arr m ρ c 4)

theorem w6_eq (c : Dev nD) (k : Fin 3) (x : Fin 1024) :
    V3 m ρ c main_v6 (ix2 k x) = m ((c : Thread nD τ).loc main_arg3) (ix3 0 k x) := by
  rw [← W2_args m ρ c main_arg3 (by decide)]
  show StableHlo.after hostOps1 (W2 m ρ c) (Proc.devRef .tc main_v6) _ = _
  entry_read
  pointwise

theorem w8_eq (c : Dev nD) (x y : Fin 1024) :
    V3 m ρ c main_v8 (ix2 x y) = m ((c : Thread nD τ).loc main_arg4) (ix3 0 x y) := by
  rw [← W2_args m ρ c main_arg4 (by decide)]
  show StableHlo.after hostOps1 (W2 m ρ c) (Proc.devRef .tc main_v8) _ = _
  entry_read
  pointwise

/-! ## The first call -/

/-- Where the block of a point lies in the gated rows. -/
theorem place3 (t : Fin cfg0.N) (y0 : Fin 512) (y1 : Fin 1024) :
    ((View.whole main_v5_0).slice (win0_3.rect t)).emb (ix2 y0 y1)
      = ix2 ⟨512 * t.val + y0.val, by have := t.isLt; have : cfg0.N = 32 := rfl; omega⟩ y1 := by
  blk_ext [idx0 t]

/-- Where the block of a point lies in the output gate. -/
theorem place4 (t : Fin cfg0.N) (y0 : Fin 512) (y1 : Fin 1024) :
    ((View.whole main_v5_1).slice (win0_4.rect t)).emb (ix2 y0 y1)
      = ix2 ⟨512 * t.val + y0.val, by have := t.isLt; have : cfg0.N = 32 := rfl; omega⟩ y1 := by
  blk_ext [idx0 t]

theorem in0 (c : Dev nD) (t : Fin cfg0.N) (y0 : Fin 512) (x : Fin 1024) :
    iblk0 (V1 m ρ) c 0 t (ix2 y0 x)
      = flat (m ((c : Thread nD τ).loc main_arg0)) (ix2 ⟨512 * t.val + y0.val, by have := t.isLt; have : cfg0.N = 32 := rfl; omega⟩ x) := by
  rw [← v0_eq m ρ c]
  generalize V1 m ρ = V
  blk_ext [iblk0, idx0 t]

theorem in1 (c : Dev nD) (t : Fin cfg0.N) (x : Fin 1024) :
    iblk0 (V1 m ρ) c 1 t (ix2 0 x) = m ((c : Thread nD τ).loc main_arg1) (ix2 0 x) := by
  rw [← v2_eq m ρ c]
  generalize V1 m ρ = V
  blk_ext [iblk0, idx0 t]

theorem in2 (c : Dev nD) (t : Fin cfg0.N) (x : Fin 1024) (y : Fin 3072) :
    iblk0 (V1 m ρ) c 2 t (ix2 x y) = m ((c : Thread nD τ).loc main_arg2) (ix3 0 x y) := by
  rw [← v4_eq m ρ c]
  generalize V1 m ρ = V
  blk_ext [iblk0, idx0 t]

/-- The gated rows. -/
theorem final3 (c : Dev nD) : (dat0 (V1 m ρ) c).arrAt 3 cfg0.N
    = flat (val_main_v20 (F := Ideal) (m ((c : Thread nD τ).loc main_arg0)) (m ((c : Thread nD τ).loc main_arg1)) (m ((c : Thread nD τ).loc main_arg2))) := by
  refine (dat0 (V1 m ρ) c).arrAt_eq_of_covers 3 _ (by decide +kernel) fun t hf y => ?_
  blk_simp
  rw [after0_3]
  frame_out
  idx_vars y
  refine Eq.trans ?_ (congrArg (flat (val_main_v20 (F := Ideal) (m ((c : Thread nD τ).loc main_arg0)) (m ((c : Thread nD τ).loc main_arg1)) (m ((c : Thread nD τ).loc main_arg2)))) (place3 t y0 y1).symm)
  pointwise [flat, k0_pay3, k0_pay1, val_main_v20, val_main_v18, val_main_v17, val_main_v15, val_main_v14, val_main_v13, val_main_v12, val_main_v11,
    val_main_v10, val_main_v9, val_main_v8, val_main_v7, val_main_v6, val_main_v5, val_main_v4, val_main_v3, val_main_v2, val_main_v1,
    val_main_v0, val_main_cst, val_main_cst_0, val_main_cst_1]
  simp only [in0, in1, in2]
  pointwise [flat]

/-- The output gate. -/
theorem final4 (c : Dev nD) : (dat0 (V1 m ρ) c).arrAt 4 cfg0.N
    = flat (val_main_v16 (F := Ideal) (m ((c : Thread nD τ).loc main_arg0)) (m ((c : Thread nD τ).loc main_arg1)) (m ((c : Thread nD τ).loc main_arg2))) := by
  refine (dat0 (V1 m ρ) c).arrAt_eq_of_covers 4 _ (by decide +kernel) fun t hf y => ?_
  blk_simp
  rw [after0_4]
  frame_out
  idx_vars y
  refine Eq.trans ?_ (congrArg (flat (val_main_v16 (F := Ideal) (m ((c : Thread nD τ).loc main_arg0)) (m ((c : Thread nD τ).loc main_arg1)) (m ((c : Thread nD τ).loc main_arg2)))) (place4 t y0 y1).symm)
  pointwise [flat, k0_pay2, k0_pay1, val_main_v16, val_main_v15, val_main_v14, val_main_v13, val_main_v12, val_main_v11,
    val_main_v10, val_main_v9, val_main_v8, val_main_v7, val_main_v6, val_main_v5, val_main_v4, val_main_v3, val_main_v2, val_main_v1,
    val_main_v0, val_main_cst, val_main_cst_0, val_main_cst_1]
  simp only [in0, in1, in2]
  pointwise [flat]

/-! ## The second call -/

/-- Where the block of a point lies in the result. -/
theorem place7 (t : Fin cfg1.N) (y0 : Fin 512) (y1 : Fin 1024) :
    ((View.whole main_v9).slice (win1_7.rect t)).emb (ix2 y0 y1)
      = ix2 ⟨512 * t.val + y0.val, by have := t.isLt; have : cfg1.N = 32 := rfl; omega⟩ y1 := by
  blk_ext [idx1 t]

set_option maxHeartbeats 2000000 in
/-- The result. -/
theorem final7 (c : Dev nD) : (dat1 (V3 m ρ) c).arrAt 7 cfg1.N
    = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dat1 (V3 m ρ) c).arrAt_eq_of_covers 7 _ (by decide +kernel) fun t hf y => ?_
  blk_simp
  rw [after1_7]
  frame_out
  idx_vars y
  refine Eq.trans ?_ (congrArg (val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (place7 t y0 y1).symm)
  pointwise [k1_pay1, k1_pay2, k1_pay3, k1_pay4, k1_pay5, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v19, val_main_c, val_main_call0_v0]
  simp only [← Cert.Proof.ConvOut.pos_eq, Cert.Proof.ConvOut.pos_first, Cert.Proof.ConvOut.pos_last, Cert.Proof.ConvOut.row_first, Cert.Proof.ConvOut.row_last, Cert.Proof.ConvOut.sel]
  have ht : t.val < 32 := t.isLt
  have hy := y0.isLt
  have h4 : iblk1 (V3 m ρ) c 4 t (ix2 y0 y1) = flat (m ((c : Thread nD τ).loc main_arg0)) (ix2 ⟨512 * t.val + y0.val, by omega⟩ y1) := by
    rw [← w0_eq m ρ c]
    generalize V3 m ρ = V
    blk_ext [iblk1, idx1 t]
  have h3 (x : Fin 1024) : iblk1 (V3 m ρ) c 3 t (ix2 y0 x) = flat (val_main_v16 (F := Ideal) (m ((c : Thread nD τ).loc main_arg0)) (m ((c : Thread nD τ).loc main_arg1)) (m ((c : Thread nD τ).loc main_arg2))) (ix2 ⟨512 * t.val + y0.val, by omega⟩ x) := by
    rw [← final4 m ρ c, ← w5_1_eq m ρ c]
    generalize V3 m ρ = V
    blk_ext [iblk1, idx1 t]
  have e5 := (w5_0_eq m ρ c).trans (final3 m ρ c)
  have h0 (r : Fin 512) (x : Fin 1024) : iblk1 (V3 m ρ) c 0 t (ix2 r x) = V3 m ρ c main_v5_0 (ix2 ⟨512 * t.val + r.val, by omega⟩ x) := by
    generalize V3 m ρ = V
    blk_ext [iblk1, idx1 t]
  have h1 (x : Fin 1024) (h : t.val % 16 ≠ 0) : iblk1 (V3 m ρ) c 1 t (ix2 7 x) = V3 m ρ c main_v5_0 (ix2 ⟨512 * t.val - 1, by omega⟩ x) := by
    generalize V3 m ρ = V
    blk_ext [iblk1, idx1 t]
  have h2 (x : Fin 1024) (h : t.val % 16 ≠ 15) : iblk1 (V3 m ρ) c 2 t (ix2 0 x) = V3 m ρ c main_v5_0 (ix2 ⟨512 * t.val + 512, by omega⟩ x) := by
    generalize V3 m ρ = V
    blk_ext [iblk1, idx1 t]
  have h6 (x : Fin 1024) : iblk1 (V3 m ρ) c 6 t (ix2 x y1) = m ((c : Thread nD τ).loc main_arg4) (ix3 0 x y1) := by
    rw [← w8_eq m ρ c]
    generalize V3 m ρ = V
    blk_ext [iblk1, idx1 t]
  have h5 (k : Fin 3) (x : Fin 1024) : iblk1 (V3 m ρ) c 5 t (ix2 k x) = m ((c : Thread nD τ).loc main_arg3) (ix3 0 k x) := by
    rw [← w6_eq m ρ c]
    generalize V3 m ρ = V
    blk_ext [iblk1, idx1 t]
  have z : (FloatOps.sitofp FTy.f32 0#32 : Ideal .f32) = 0 := by
    simp [FloatOps.sitofp]
  simp only [h4, h3, h0, h6, h5, z]
  congr 1
  refine Finset.sum_congr rfl fun x _ => ?_
  rw [e5] at h1 h2
  rw [e5]
  congr 2
  congr 1
  · congr 1
    · congr 1
      exact (Cert.Proof.ConvOut.row_before _ _ t.val y0.val x ht hy (h1 x)).trans
        (dite_congr rfl (fun h => flat_at _ _ _ x h.1 h.2.2 _) fun _ => rfl)
    · congr 1
      exact (Cert.Proof.ConvOut.row_same _ t.val y0.val x ht hy).trans
        (dite_congr rfl (fun h => flat_at _ _ _ x h.1 h.2 _) fun _ => rfl)
  · congr 1
    exact (Cert.Proof.ConvOut.row_after _ _ t.val y0.val x ht hy (h2 x)).trans
      (dite_congr rfl (fun h => flat_at _ _ _ x h.1 h.2.2 _) fun _ => rfl)

end Cert.Proof.ConvLayer

end
-- ==== Proof.ConvLayerRun.lean ====
/- The convolution's two calls in one run: where the run ends, with the array the second call leaves and the arguments
   as launched. -/
module

public import proofs.«01_k».proof.Proof.Gen.ConvLayerIdeal.Frame

@[expose] public section

set_option maxRecDepth 16384

noncomputable section

namespace Cert.Proof.ConvLayer

open Cert.ConvLayerIdeal Cert.ConvLayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The run of the two calls: the result is what the second call leaves, the arguments are as launched. -/
theorem run : θ_run defs (onTc (τ := τ) (main (F := F))) ⟨m, fun _ => 0, ρ⟩ (fun r => ∀ c : Dev nD,
      r.2.mem ((c.tc : Thread nD τ).loc main_v9) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v9 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Proof.ConvLayer

end
-- ==== Proof.ConvLayerClaims.lean ====
/- The claims about the convolution's two calls, one after the other: the kernels and the reference leave the same array. -/
module

public import proofs.«01_k».proof.Defs
public import proofs.«01_k».proof.Proof.ConvLayer
public import proofs.«01_k».proof.Proof.ConvLayerRun
public import proofs.«01_k».proof.Proof.Gen.ConvLayerIdeal
public import proofs.«01_k».proof.Proof.Gen.ConvLayerRefIdeal
public import Idealize.ShloMosaic.Lib.Quiescent

@[expose] public section

set_option maxRecDepth 16384

noncomputable section

namespace Cert.Proof

open Idealize.ShloMosaic Idealize.ShloMosaic.TcCoe Idealize.SL.Sem

theorem quiescent_ConvLayerRefIdeal : Cert.quiescent_ConvLayerRefIdeal (hConvLayerRefIdeal := Cert.ConvLayerRefIdeal.Gen.facts) := fun m g _ =>
  (θ_run _ _ _).mono (fun r h => ⟨fun c => (h c).2, sem_eq_zero_of_no_sems (by decide) r.2⟩) (Cert.ConvLayerRefIdeal.Value.run m g)

theorem algebraic_ConvLayerIdeal : Cert.algebraic_ConvLayerIdeal_ConvLayerRefIdeal (hConvLayerIdeal := Cert.ConvLayerIdeal.Gen.facts) (hConvLayerRefIdeal := Cert.ConvLayerRefIdeal.Gen.facts) := by
  intro m g m' g' _ h
  refine ⟨fun c => Cert.ConvLayerRefIdeal.Read.val_main_v46 (F := Ideal) (m ((c.tc : Thread Cert.ConvLayerIdeal.nD Cert.ConvLayerIdeal.τ).loc Cert.ConvLayerIdeal.main_arg0)) (m ((c.tc : Thread Cert.ConvLayerIdeal.nD Cert.ConvLayerIdeal.τ).loc Cert.ConvLayerIdeal.main_arg1)) (m ((c.tc : Thread Cert.ConvLayerIdeal.nD Cert.ConvLayerIdeal.τ).loc Cert.ConvLayerIdeal.main_arg2)) (m ((c.tc : Thread Cert.ConvLayerIdeal.nD Cert.ConvLayerIdeal.τ).loc Cert.ConvLayerIdeal.main_arg3)) (m ((c.tc : Thread Cert.ConvLayerIdeal.nD Cert.ConvLayerIdeal.τ).loc Cert.ConvLayerIdeal.main_arg4)), ?_, ?_⟩
  · exact (θ_run _ _ _).mono (fun r h c => by
      obtain h := h c
      exact ⟨h.1.trans (Cert.Proof.ConvLayer.final7 m g c), h.2⟩) (Cert.Proof.ConvLayer.run (F := Ideal) m g)
  · refine (θ_run _ _ _).mono (fun r h' c => ?_) (Cert.ConvLayerRefIdeal.Value.run (F := Ideal) m' g')
    obtain h' := h' c
    have e0 := (h c).1
    have e1 := (h c).2.1
    have e2 := (h c).2.2.1
    have e3 := (h c).2.2.2.1
    have e4 := (h c).2.2.2.2
    exact ⟨h'.1.trans (by rw [Cert.ConvLayerRefIdeal.Read.val_main_v46_eq, e0, e1, e2, e3, e4]), h'.2⟩

end Cert.Proof

end
-- ==== Proof.lean ====
/- The certificate: every program runs, leaves its arguments as they were and every counter at zero; each kernel read over
   the extended reals leaves what its reference leaves. -/
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.AttnIdeal.Frame
public import proofs.«01_k».proof.Proof.Gen.AttnRefIdeal
public import proofs.«01_k».proof.Proof.Gen.AttnRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Read
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInIdeal.Value
public import proofs.«01_k».proof.Proof.Gen.ConvInRefIdeal
public import proofs.«01_k».proof.Proof.Gen.ConvInRefIdeal.Read
public import proofs.«01_k».proof.Proof.Gen.ConvOut
public import proofs.«01_k».proof.Proof.Gen.ConvOut.Skeleton
public import proofs.«01_k».proof.Proof.Gen.ConvOut.Launch
public import proofs.«01_k».proof.Proof.Gen.ConvOut.Points
public import proofs.«01_k».proof.Proof.Gen.ConvOut.Frame
public import proofs.«01_k».proof.Proof.Gen.ConvOutIdeal
public import proofs.«01_k».proof.Proof.Gen.ConvOutIdeal.Skeleton
public import proofs.«01_k».proof.Proof.Gen.ConvOutIdeal.Launch
public import proofs.«01_k».proof.Proof.Gen.ConvOutIdeal.Points
public import proofs.«01_k».proof.Proof.Gen.ConvOutIdeal.Frame
public import proofs.«01_k».proof.Proof.Gen.ConvOutIdeal.Value
public import proofs.«01_k».proof.Proof.Gen.ConvOutRefIdeal
public import proofs.«01_k».proof.Proof.Gen.ConvOutRefIdeal.Read
public import proofs.«01_k».proof.Proof.Gen.ConvLayer
public import proofs.«01_k».proof.Proof.Gen.ConvLayer.Skeleton
public import proofs.«01_k».proof.Proof.Gen.ConvLayer.Launch
public import proofs.«01_k».proof.Proof.Gen.ConvLayer.Points
public import proofs.«01_k».proof.Proof.Gen.ConvLayer.Frame
public import proofs.«01_k».proof.Proof.Gen.ConvLayerIdeal
public import proofs.«01_k».proof.Proof.Gen.ConvLayerIdeal.Skeleton
public import proofs.«01_k».proof.Proof.Gen.ConvLayerIdeal.Launch
public import proofs.«01_k».proof.Proof.Gen.ConvLayerIdeal.Points
public import proofs.«01_k».proof.Proof.Gen.ConvLayerIdeal.Frame
public import proofs.«01_k».proof.Proof.Gen.ConvLayerRefIdeal
public import proofs.«01_k».proof.Proof.Gen.ConvLayerRefIdeal.Read
public import proofs.«01_k».proof.Proof.Claims
public import proofs.«01_k».proof.Proof.AttnClaims
public import proofs.«01_k».proof.Proof.ConvLayerClaims
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts,
  Cert.Qkv.Gen.facts, Cert.QkvIdeal.Gen.facts, Cert.QkvRefIdeal.Gen.facts,
  Cert.ConvIn.Gen.facts, Cert.ConvInIdeal.Gen.facts, Cert.ConvInRefIdeal.Gen.facts,
  Cert.ConvOut.Gen.facts, Cert.ConvOutIdeal.Gen.facts, Cert.ConvOutRefIdeal.Gen.facts,
  Cert.ConvLayer.Gen.facts, Cert.ConvLayerIdeal.Gen.facts, Cert.ConvLayerRefIdeal.Gen.facts, Cert.Pre_finite.facts,
  fun m g _ => Cert.Attn.Body.frame m g, fun m g _ => Cert.AttnIdeal.Body.frame m g,
  quiescent_AttnIdeal_pre, quiescent_AttnRefIdeal, quiescent_AttnRefIdeal_pre,
  fun m g _ => Cert.Qkv.Gen.frame m g, fun m g _ => Cert.QkvIdeal.Gen.frame m g, quiescent_QkvRefIdeal,
  fun m g _ => Cert.ConvIn.Gen.frame m g, fun m g _ => Cert.ConvInIdeal.Gen.frame m g, quiescent_ConvInRefIdeal,
  fun m g _ => Cert.ConvOut.Gen.frame m g, fun m g _ => Cert.ConvOutIdeal.Gen.frame m g, quiescent_ConvOutRefIdeal,
  fun m g _ => Cert.ConvLayer.Gen.frame m g, fun m g _ => Cert.ConvLayerIdeal.Gen.frame m g, quiescent_ConvLayerRefIdeal,
  IdealRules.named_const.statement Cert.AttnIdeal.κ "mask" .f32 0xF149F2CA#32 ⊥ rfl, algebraic_AttnIdeal,
  trivial, algebraic_QkvIdeal, trivial, algebraic_ConvInIdeal, trivial, algebraic_ConvOutIdeal,
  trivial, algebraic_ConvLayerIdeal⟩

end Cert.Proof

end
